-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v2_0)) (v1 : (c : Dev Cert.Kernel1Ideal.nD) → Buf (Elt Ideal) ((c.tc : Thread Cert.Kernel1Ideal.nD Cert.Kernel1Ideal.τ).loc Cert.Kernel1Ideal.main_v2_1)) (v2 : (c : Dev Cert.Kernel1Ideal.nD) → Buf (Elt Ideal) ((c.tc : Thread Cert.Kernel1Ideal.nD Cert.Kernel1Ideal.τ).loc Cert.Kernel1Ideal.main_v2_2)) (v3 : (c : Dev Cert.Kernel1Ideal.nD) → Buf (Elt Ideal) ((c.tc : Thread Cert.Kernel1Ideal.nD Cert.Kernel1Ideal.τ).loc Cert.Kernel1Ideal.main_v2_3)) (v4 : (c : Dev Cert.Kernel1Ideal.nD) → Buf (Elt Ideal) ((c.tc : Thread Cert.Kernel1Ideal.nD Cert.Kernel1Ideal.τ).loc Cert.Kernel1Ideal.main_v2_4)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v2_0) = v0 c
          ∧ r.2.mem ((c.tc : Thread Cert.Kernel1Ideal.nD Cert.Kernel1Ideal.τ).loc Cert.Kernel1Ideal.main_v2_1) = v1 c
          ∧ r.2.mem ((c.tc : Thread Cert.Kernel1Ideal.nD Cert.Kernel1Ideal.τ).loc Cert.Kernel1Ideal.main_v2_2) = v2 c
          ∧ r.2.mem ((c.tc : Thread Cert.Kernel1Ideal.nD Cert.Kernel1Ideal.τ).loc Cert.Kernel1Ideal.main_v2_3) = v3 c
          ∧ r.2.mem ((c.tc : Thread Cert.Kernel1Ideal.nD Cert.Kernel1Ideal.τ).loc Cert.Kernel1Ideal.main_v2_4) = v4 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v23) = v0 c
          ∧ r.2.mem ((c.tc : Thread Cert.Reference1Ideal.nD Cert.Reference1Ideal.τ).loc Cert.Reference1Ideal.main_v24) = v1 c
          ∧ r.2.mem ((c.tc : Thread Cert.Reference1Ideal.nD Cert.Reference1Ideal.τ).loc Cert.Reference1Ideal.main_v25) = v2 c
          ∧ r.2.mem ((c.tc : Thread Cert.Reference1Ideal.nD Cert.Reference1Ideal.τ).loc Cert.Reference1Ideal.main_v26) = v3 c
          ∧ r.2.mem ((c.tc : Thread Cert.Reference1Ideal.nD Cert.Reference1Ideal.τ).loc Cert.Reference1Ideal.main_v27) = v4 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Kernel1.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S256x512 : Shape := ⟨2, ![256, 512]⟩
abbrev S704x256 : Shape := ⟨2, ![704, 256]⟩
abbrev S256x256 : Shape := ⟨2, ![256, 256]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 17
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S2048x5632, .bf16⟩
  | .hbm, ⟨14, _⟩ => ⟨S2048x5632, .bf16⟩
  | .hbm, ⟨15, _⟩ => ⟨S5632x2048, .bf16⟩
  | .hbm, ⟨16, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S704x256, .f32⟩
  | .local _ .vmem, ⟨15, _⟩ => ⟨S704x256, .f32⟩
  | .local _ .vmem, ⟨16, _⟩ => ⟨S256x256, .f32⟩
  | .local _ .vmem, ⟨17, _⟩ => ⟨S256x256, .f32⟩
  | .local _ .vmem, ⟨18, _⟩ => ⟨S1024x2048, .f32⟩
  | .local _ .vmem, ⟨19, _⟩ => ⟨S1024x2048, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S704x256, .bf16⟩
  | .local _ .vmem, ⟨25, _⟩ => ⟨S704x256, .bf16⟩
  | .local _ .vmem, ⟨26, _⟩ => ⟨S256x256, .bf16⟩
  | .local _ .vmem, ⟨27, _⟩ => ⟨S256x256, .bf16⟩
  | .local _ .vmem, ⟨28, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c8_i32 : BitVec 32 := 8#32
  let v33 : BitVec 32 := Scalar.addi c0_i32_31 c8_i32
  let c1_i32 : BitVec 32 := 1#32
  ⟨c0_i32_31, v33, c1_i32⟩
def k0_mult1 (k0_t1 : Fin k0_t1_loop.trips) : BitVec 32 :=
  let c0_i32_31 : BitVec 32 := 0#32
  let c1_i32 : BitVec 32 := 1#32
  let arg18 : BitVec 32 := Scf.iv c0_i32_31 c1_i32 k0_t1
  let c128_i32 : BitVec 32 := 128#32
  let v34 : BitVec 32 := Scalar.muli arg18 c128_i32
  v34
def k0_off1 (k0_t1 : Fin k0_t1_loop.trips) : Fin 2 → Nat :=
  let c0_i32_31 : BitVec 32 := 0#32
  let c1_i32 : BitVec 32 := 1#32
  let arg18 : BitVec 32 := Scf.iv c0_i32_31 c1_i32 k0_t1
  let c128_i32 : BitVec 32 := 128#32
  let v34 : BitVec 32 := Scalar.muli arg18 c128_i32
  let v35 : BitVec 32 := v34
  let v36 : Index := Scalar.indexCast v35
  let c0_33 : Index := 0#32
  ![v36.toNat, 0]
def k0_cond2 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_30 : BitVec 32 := 0#32
  let v32 : BitVec 1 := Scalar.cmpi .ne v31 c0_i32_30
  v32

@[reducible] def k0_t2_loop : Scf.Loop 32 :=
  let c0_i32_31 : BitVec 32 := 0#32
  let c8_i32 : BitVec 32 := 8#32
  let v33 : BitVec 32 := Scalar.addi c0_i32_31 c8_i32
  let c1_i32 : BitVec 32 := 1#32
  ⟨c0_i32_31, v33, c1_i32⟩
def k0_mult2 (k0_t2 : Fin k0_t2_loop.trips) : BitVec 32 :=
  let c0_i32_31 : BitVec 32 := 0#32
  let c1_i32 : BitVec 32 := 1#32
  let arg18 : BitVec 32 := Scf.iv c0_i32_31 c1_i32 k0_t2
  let c128_i32 : BitVec 32 := 128#32
  let v34 : BitVec 32 := Scalar.muli arg18 c128_i32
  v34
def k0_off2 (k0_t2 : Fin k0_t2_loop.trips) : Fin 2 → Nat :=
  let c0_i32_31 : BitVec 32 := 0#32
  let c1_i32 : BitVec 32 := 1#32
  let arg18 : BitVec 32 := Scf.iv c0_i32_31 c1_i32 k0_t2
  let c128_i32 : BitVec 32 := 128#32
  let v34 : BitVec 32 := Scalar.muli arg18 c128_i32
  let v35 : BitVec 32 := v34
  let v36 : Index := Scalar.indexCast v35
  let c0_33 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S704x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference1Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S2048x5632, .bf16⟩
  | .hbm, ⟨47, _⟩ => ⟨S2048x5632, .bf16⟩
  | .hbm, ⟨48, _⟩ => ⟨S5632x2048, .bf16⟩
  | .hbm, ⟨49, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c8_i32 : BitVec 32 := 8#32
  let v21 : BitVec 32 := Scalar.addi c0_i32_15 c8_i32
  let c1_i32 : BitVec 32 := 1#32
  ⟨c0_i32_15, v21, c1_i32⟩
def k0_mult1 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c128_i32 : BitVec 32 := 128#32
  let v22 : BitVec 32 := Scalar.muli arg10 c128_i32
  v22
def k0_off1 (k0_t1 : Fin k0_t1_loop.trips) : Fin 2 → Nat :=
  let c0_i32_15 : BitVec 32 := 0#32
  let c1_i32 : BitVec 32 := 1#32
  let arg10 : BitVec 32 := Scf.iv c0_i32_15 c1_i32 k0_t1
  let c128_i32 : BitVec 32 := 128#32
  let v22 : BitVec 32 := Scalar.muli arg10 c128_i32
  let v23 : BitVec 32 := v22
  let v24 : Index := Scalar.indexCast v23
  let c0_17 : Index := 0#32
  ![v24.toNat, 0]
def k0_cond2 (i : grid0.Coords) : BitVec 1 :=
  let arg1 : BitVec 32 := BitVec.ofNat 32 (i 1).val
  let c10_i32 : BitVec 32 := 10#32
  let v18 : BitVec 1 := Scalar.cmpi .eq arg1 c10_i32
  let v19 : BitVec 32 := Scalar.extui v18
  let c0_i32_14 : BitVec 32 := 0#32
  let v20 : BitVec 1 := Scalar.cmpi .ne v19 c0_i32_14
  v20

@[reducible] def k0_t2_loop : Scf.Loop 32 :=
  let c0_i32_15 : BitVec 32 := 0#32
  let c8_i32 : BitVec 32 := 8#32
  let v21 : BitVec 32 := Scalar.addi c0_i32_15 c8_i32
  let c1_i32 : BitVec 32 := 1#32
  ⟨c0_i32_15, v21, c1_i32⟩
def k0_mult2 (k0_t2 : Fin k0_t2_loop.trips) : BitVec 32 :=
  let c0_i32_15 : BitVec 32 := 0#32
  let c1_i32 : BitVec 32 := 1#32
  let arg10 : BitVec 32 := Scf.iv c0_i32_15 c1_i32 k0_t2
  let c128_i32 : BitVec 32 := 128#32
  let v22 : BitVec 32 := Scalar.muli arg10 c128_i32
  v22
def k0_off2 (k0_t2 : Fin k0_t2_loop.trips) : Fin 2 → Nat :=
  let c0_i32_15 : BitVec 32 := 0#32
  let c1_i32 : BitVec 32 := 1#32
  let arg10 : BitVec 32 := Scf.iv c0_i32_15 c1_i32 k0_t2
  let c128_i32 : BitVec 32 := 128#32
  let v22 : BitVec 32 := Scalar.muli arg10 c128_i32
  let v23 : BitVec 32 := v22
  let v24 : Index := Scalar.indexCast v23
  let c0_17 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1024x2048, .bf16⟩
  | .hbm, ⟨5, _⟩ => ⟨S1024x2048, .bf16⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S8192x1024, .f32⟩
  | .hbm, ⟨5, _⟩ => ⟨S8192x1024, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S6176x2048 : Shape := ⟨2, ![6176, 2048]⟩
abbrev S1x2048 : Shape := ⟨2, ![1, 2048]⟩
abbrev S8192x6144 : Shape := ⟨2, ![8192, 6144]⟩
abbrev S8192x128 : Shape := ⟨2, ![8192, 128]⟩
abbrev S1024x2048 : Shape := ⟨2, ![1024, 2048]⟩
abbrev S2048x2048 : Shape := ⟨2, ![2048, 2048]⟩
abbrev S128x2048 : Shape := ⟨2, ![128, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S6176x2048, .bf16⟩
  | .hbm, ⟨3, _⟩ => ⟨S1x2048, .f32⟩
  | .hbm, ⟨4, _⟩ => ⟨S8192x6144, .f32⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![c48_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x2048 : Shape := ⟨2, ![8192, 2048]⟩
abbrev S2048 : Shape := ⟨1, ![2048]⟩
abbrev S6176x2048 : Shape := ⟨2, ![6176, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6176 : Shape := ⟨2, ![2048, 6176]⟩
abbrev S8192x6176 : Shape := ⟨2, ![8192, 6176]⟩
abbrev S8192x6144 : Shape := ⟨2, ![8192, 6144]⟩
abbrev S8192x32 : Shape := ⟨2, ![8192, 32]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S6176x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S6176x2048, .f32⟩
  | .hbm, ⟨20, _⟩ => ⟨S2048x6176, .f32⟩
  | .hbm, ⟨21, _⟩ => ⟨S8192x6176, .f32⟩
  | .hbm, ⟨22, _⟩ => ⟨S8192x6144, .f32⟩
  | .hbm, ⟨23, _⟩ => ⟨S8192x32, .f32⟩
  | .hbm, ⟨24, _⟩ => ⟨S_, .i32⟩
  | .hbm, ⟨25, _⟩ => ⟨S_, .f32⟩
  | .hbm, ⟨26, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel5.lean ====
abbrev S8192x6144 : Shape := ⟨2, ![8192, 6144]⟩
abbrev S8192x128 : Shape := ⟨2, ![8192, 128]⟩
abbrev S16x512 : Shape := ⟨2, ![16, 512]⟩
abbrev S512 : Shape := ⟨1, ![512]⟩
abbrev S1024 : Shape := ⟨1, ![1024]⟩
abbrev S_ : Shape := ⟨0, ![]⟩
abbrev S2x128x512 : Shape := ⟨3, ![2, 128, 512]⟩
abbrev S1 : Shape := ⟨1, ![1]⟩
abbrev S2 : Shape := ⟨1, ![2]⟩
abbrev S2x384x512 : Shape := ⟨3, ![2, 384, 512]⟩
abbrev S1x512 : Shape := ⟨2, ![1, 512]⟩
abbrev S2x512 : Shape := ⟨2, ![2, 512]⟩
abbrev S2x1x512 : Shape := ⟨3, ![2, 1, 512]⟩
abbrev S1x1024 : Shape := ⟨2, ![1, 1024]⟩
abbrev S8192x1024 : Shape := ⟨2, ![8192, 1024]⟩
abbrev S1024x128 : Shape := ⟨2, ![1024, 128]⟩
abbrev S1024x256 : Shape := ⟨2, ![1024, 256]⟩
abbrev S2x384x128 : Shape := ⟨3, ![2, 384, 128]⟩
abbrev S2x1x128 : Shape := ⟨3, ![2, 1, 128]⟩
abbrev S1x256 : Shape := ⟨2, ![1, 256]⟩
abbrev S8192x256 : Shape := ⟨2, ![8192, 256]⟩
abbrev S2x256x128 : Shape := ⟨3, ![2, 256, 128]⟩
abbrev S2x1024x384 : Shape := ⟨3, ![2, 1024, 384]⟩
abbrev S2x1024x128 : Shape := ⟨3, ![2, 1024, 128]⟩
abbrev S2x3x1024x128 : Shape := ⟨4, ![2, 3, 1024, 128]⟩
abbrev S2x1024x256 : Shape := ⟨3, ![2, 1024, 256]⟩
abbrev S2x1024x64 : Shape := ⟨3, ![2, 1024, 64]⟩
abbrev S2x4096x128 : Shape := ⟨3, ![2, 4096, 128]⟩
abbrev S1x384x128 : Shape := ⟨3, ![1, 384, 128]⟩
abbrev S384x128 : Shape := ⟨2, ![384, 128]⟩
abbrev S1x1x128 : Shape := ⟨3, ![1, 1, 128]⟩
abbrev S1x128 : Shape := ⟨2, ![1, 128]⟩
abbrev S64x64 : Shape := ⟨2, ![64, 64]⟩
abbrev S1024x384 : Shape := ⟨2, ![1024, 384]⟩
abbrev S1x1024x384 : Shape := ⟨3, ![1, 1024, 384]⟩
abbrev S64x384 : Shape := ⟨2, ![64, 384]⟩
abbrev S64x128 : Shape := ⟨2, ![64, 128]⟩
abbrev S1x1024x128 : Shape := ⟨3, ![1, 1024, 128]⟩
abbrev S1x3x1024x128 : Shape := ⟨4, ![1, 3, 1024, 128]⟩
abbrev S3x1024x128 : Shape := ⟨3, ![3, 1024, 128]⟩
abbrev S1x64x128 : Shape := ⟨3, ![1, 64, 128]⟩
abbrev S1x1x64x128 : Shape := ⟨4, ![1, 1, 64, 128]⟩
abbrev S64x256 : Shape := ⟨2, ![64, 256]⟩
abbrev S1x1024x256 : Shape := ⟨3, ![1, 1024, 256]⟩
abbrev S1x64x256 : Shape := ⟨3, ![1, 64, 256]⟩
abbrev S1x1024x64 : Shape := ⟨3, ![1, 1024, 64]⟩
abbrev S1024x64 : Shape := ⟨2, ![1024, 64]⟩
abbrev S1x64x64 : Shape := ⟨3, ![1, 64, 64]⟩
abbrev S256x128 : Shape := ⟨2, ![256, 128]⟩
abbrev S1x4096x128 : Shape := ⟨3, ![1, 4096, 128]⟩
abbrev S4096x128 : Shape := ⟨2, ![4096, 128]⟩
abbrev S1x256x128 : Shape := ⟨3, ![1, 256, 128]⟩
abbrev S1024x1 : Shape := ⟨2, ![1024, 1]⟩

abbrev nBuf : Space → Nat
  | .hbm => 32
  | .vmem => 37
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S16x512, .f32⟩
  | .hbm, ⟨3, _⟩ => ⟨S512, .f32⟩
  | .hbm, ⟨4, _⟩ => ⟨S16x512, .f32⟩
  | .hbm, ⟨5, _⟩ => ⟨S512, .f32⟩
  | .hbm, ⟨6, _⟩ => ⟨S1024, .f32⟩
  | .hbm, ⟨7, _⟩ => ⟨S_, .f32⟩
  | .hbm, ⟨8, _⟩ => ⟨S2x128x512, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x512, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128x512, .f32⟩
  | .hbm, ⟨21, _⟩ => ⟨S2x128x512, .bf16⟩
  | .hbm, ⟨22, _⟩ => ⟨S2x128x512, .f32⟩
  | .hbm, ⟨23, _⟩ => ⟨S2x128x512, .f32⟩
  | .hbm, ⟨24, _⟩ => ⟨S2x128x512, .bf16⟩
  | .hbm, ⟨25, _⟩ => ⟨S2x384x512, .bf16⟩
  | .hbm, ⟨26, _⟩ => ⟨S1x512, .f32⟩
  | .hbm, ⟨27, _⟩ => ⟨S1x512, .f32⟩
  | .hbm, ⟨28, _⟩ => ⟨S2x512, .f32⟩
  | .hbm, ⟨29, _⟩ => ⟨S2x1x512, .f32⟩
  | .hbm, ⟨30, _⟩ => ⟨S1x1024, .f32⟩
  | .hbm, ⟨31, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x256, .f32⟩
  | .local _ .vmem, ⟨20, _⟩ => ⟨S2x384x128, .bf16⟩
  | .local _ .vmem, ⟨21, _⟩ => ⟨S2x384x128, .bf16⟩
  | .local _ .vmem, ⟨22, _⟩ => ⟨S2x1x128, .f32⟩
  | .local _ .vmem, ⟨23, _⟩ => ⟨S2x1x128, .f32⟩
  | .local _ .vmem, ⟨24, _⟩ => ⟨S1x256, .f32⟩
  | .local _ .vmem, ⟨25, _⟩ => ⟨S1x256, .f32⟩
  | .local _ .vmem, ⟨26, _⟩ => ⟨S8192x256, .bf16⟩
  | .local _ .vmem, ⟨27, _⟩ => ⟨S8192x256, .bf16⟩
  | .local _ .vmem, ⟨28, _⟩ => ⟨S2x256x128, .f32⟩
  | .local _ .vmem, ⟨29, _⟩ => ⟨S2x1024x384, .bf16⟩
  | .local _ .vmem, ⟨30, _⟩ => ⟨S2x1024x128, .f32⟩
  | .local _ .vmem, ⟨31, _⟩ => ⟨S2x3x1024x128, .bf16⟩
  | .local _ .vmem, ⟨32, _⟩ => ⟨S2x1024x256, .bf16⟩
  | .local _ .vmem, ⟨33, _⟩ => ⟨S2x1024x64, .bf16⟩
  | .local _ .vmem, ⟨34, _⟩ => ⟨S2x4096x128, .f32⟩
  | .local _ .vmem, ⟨35, _⟩ => ⟨S2x1024x256, .f32⟩
  | .local _ .vmem, ⟨36, _⟩ => ⟨S8192x256, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3969 : BitVec 32 := Scalar.muli arg1 c1024_i32
  v3969
def k0_cond2 (i : grid0.Coords) : BitVec 1 :=
  let arg1 : BitVec 32 := BitVec.ofNat 32 (i 1).val
  let c4_i32 : BitVec 32 := 4#32
  let v3967 : BitVec 1 := Scalar.cmpi .slt arg1 c4_i32
  let v3971 : BitVec 32 := Scalar.extui v3967
  let c0_i32_4111 : BitVec 32 := 0#32
  let v3972 : BitVec 1 := Scalar.cmpi .ne v3971 c0_i32_4111
  v3972

def k0_off1 (i : grid0.Coords) : Fin 2 → Nat :=
  let arg1 : BitVec 32 := BitVec.ofNat 32 (i 1).val
  let c1024_i32 : BitVec 32 := 1024#32
  let v3969 : BitVec 32 := Scalar.muli arg1 c1024_i32
  let v3970 : BitVec 32 := v3969
  let v3985 : Index := Scalar.indexCast v3970
  let c0_4120 : Index := 0#32
  ![v3985.toNat, 0]
def k0_cond3 (i : grid0.Coords) : BitVec 1 :=
  let arg1 : BitVec 32 := BitVec.ofNat 32 (i 1).val
  let c4_i32 : BitVec 32 := 4#32
  let v3967 : BitVec 1 := Scalar.cmpi .slt arg1 c4_i32
  let v_true : BitVec 1 := 1#1
  let v3973 : BitVec 1 := Scalar.xori v3967 v_true
  let v3974 : BitVec 32 := Scalar.extui v3973
  let c0_i32_4112 : BitVec 32 := 0#32
  let v3975 : BitVec 1 := Scalar.cmpi .ne v3974 c0_i32_4112
  v3975

def k0_off2 (i : grid0.Coords) : Fin 2 → Nat :=
  let arg1 : BitVec 32 := BitVec.ofNat 32 (i 1).val
  let c1024_i32 : BitVec 32 := 1024#32
  let v3969 : BitVec 32 := Scalar.muli arg1 c1024_i32
  let v3970 : BitVec 32 := v3969
  let v3983 : Index := Scalar.indexCast v3970
  let c0_4117 : Index := 0#32
  ![v3983.toNat, 0]
def k0_mult2 (i : grid0.Coords) : BitVec 32 :=
  let c7_i32 : BitVec 32 := 7#32
  let arg1 : BitVec 32 := BitVec.ofNat 32 (i 1).val
  let v3968 : BitVec 32 := Scalar.subi c7_i32 arg1
  let c1024_i32_4113 : BitVec 32 := 1024#32
  let v3976 : BitVec 32 := Scalar.muli v3968 c1024_i32_4113
  v3976
def k0_cond4 (i : grid0.Coords) : BitVec 1 :=
  let arg1 : BitVec 32 := BitVec.ofNat 32 (i 1).val
  let c4_i32 : BitVec 32 := 4#32
  let v3967 : BitVec 1 := Scalar.cmpi .slt arg1 c4_i32
  let v3978 : BitVec 32 := Scalar.extui v3967
  let c0_i32_4114 : BitVec 32 := 0#32
  let v3979 : BitVec 1 := Scalar.cmpi .ne v3978 c0_i32_4114
  v3979

def k0_off3 (i : grid0.Coords) : Fin 2 → Nat :=
  let c7_i32 : BitVec 32 := 7#32
  let arg1 : BitVec 32 := BitVec.ofNat 32 (i 1).val
  let v3968 : BitVec 32 := Scalar.subi c7_i32 arg1
  let c1024_i32_4113 : BitVec 32 := 1024#32
  let v3976 : BitVec 32 := Scalar.muli v3968 c1024_i32_4113
  let v3977 : BitVec 32 := v3976
  let v3985 : Index := Scalar.indexCast v3977
  let c0_4120 : Index := 0#32
  ![v3985.toNat, 0]
def k0_cond5 (i : grid0.Coords) : BitVec 1 :=
  let arg1 : BitVec 32 := BitVec.ofNat 32 (i 1).val
  let c4_i32 : BitVec 32 := 4#32
  let v3967 : BitVec 1 := Scalar.cmpi .slt arg1 c4_i32
  let true_4115 : BitVec 1 := 1#1
  let v3980 : BitVec 1 := Scalar.xori v3967 true_4115
  let v3981 : BitVec 32 := Scalar.extui v3980
  let c0_i32_4116 : BitVec 32 := 0#32
  let v3982 : BitVec 1 := Scalar.cmpi .ne v3981 c0_i32_4116
  v3982

def k0_off4 (i : grid0.Coords) : Fin 2 → Nat :=
  let c7_i32 : BitVec 32 := 7#32
  let arg1 : BitVec 32 := BitVec.ofNat 32 (i 1).val
  let v3968 : BitVec 32 := Scalar.subi c7_i32 arg1
  let c1024_i32_4113 : BitVec 32 := 1024#32
  let v3976 : BitVec 32 := Scalar.muli v3968 c1024_i32_4113
  let v3977 : BitVec 32 := v3976
  let v3983 : Index := Scalar.indexCast v3977
  let c0_4117 : Index := 0#32
  ![v3983.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c24_i32 : BitVec 32 := 24#32
  let v1 : BitVec 32 := Scalar.addi c24_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c28_i32 : BitVec 32 := 28#32
  let v1 : BitVec 32 := Scalar.addi c28_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c16_i32 : BitVec 32 := 16#32
  let v1 : BitVec 32 := Scalar.addi c16_i32 arg0
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c20_i32 : BitVec 32 := 20#32
  let v1 : BitVec 32 := Scalar.addi c20_i32 arg0
  let c0_i32 : BitVec 32 := 0#32
  ![v0.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8192x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel6.lean ====
abbrev S8192x128 : Shape := ⟨2, ![8192, 128]⟩
abbrev S128x128 : Shape := ⟨2, ![128, 128]⟩
abbrev S1x128 : Shape := ⟨2, ![1, 128]⟩
abbrev S6176x2048 : Shape := ⟨2, ![6176, 2048]⟩
abbrev S2048x5632 : Shape := ⟨2, ![2048, 5632]⟩
abbrev S5632x2048 : Shape := ⟨2, ![5632, 2048]⟩
abbrev S8192x384 : Shape := ⟨2, ![8192, 384]⟩
abbrev S512x128 : Shape := ⟨2, ![512, 128]⟩
abbrev S400x2048 : Shape := ⟨2, ![400, 2048]⟩
abbrev S128x5632 : Shape := ⟨2, ![128, 5632]⟩
abbrev S352x2048 : Shape := ⟨2, ![352, 2048]⟩
abbrev S512x384 : Shape := ⟨2, ![512, 384]⟩

abbrev nBuf : Space → Nat
  | .hbm => 19
  | .vmem => 29
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S6176x2048, .f32⟩
  | .hbm, ⟨11, _⟩ => ⟨S2048x5632, .f32⟩
  | .hbm, ⟨12, _⟩ => ⟨S2048x5632, .f32⟩
  | .hbm, ⟨13, _⟩ => ⟨S5632x2048, .f32⟩
  | .hbm, ⟨14, _⟩ => ⟨S8192x384, .bf16⟩
  | .hbm, ⟨15, _⟩ => ⟨S6176x2048, .bf16⟩
  | .hbm, ⟨16, _⟩ => ⟨S2048x5632, .bf16⟩
  | .hbm, ⟨17, _⟩ => ⟨S2048x5632, .bf16⟩
  | .hbm, ⟨18, _⟩ => ⟨S5632x2048, .bf16⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S400x2048, .f32⟩
  | .local _ .vmem, ⟨12, _⟩ => ⟨S400x2048, .f32⟩
  | .local _ .vmem, ⟨13, _⟩ => ⟨S128x5632, .f32⟩
  | .local _ .vmem, ⟨14, _⟩ => ⟨S128x5632, .f32⟩
  | .local _ .vmem, ⟨15, _⟩ => ⟨S128x5632, .f32⟩
  | .local _ .vmem, ⟨16, _⟩ => ⟨S128x5632, .f32⟩
  | .local _ .vmem, ⟨17, _⟩ => ⟨S352x2048, .f32⟩
  | .local _ .vmem, ⟨18, _⟩ => ⟨S352x2048, .f32⟩
  | .local _ .vmem, ⟨19, _⟩ => ⟨S512x384, .bf16⟩
  | .local _ .vmem, ⟨20, _⟩ => ⟨S512x384, .bf16⟩
  | .local _ .vmem, ⟨21, _⟩ => ⟨S400x2048, .bf16⟩
  | .local _ .vmem, ⟨22, _⟩ => ⟨S400x2048, .bf16⟩
  | .local _ .vmem, ⟨23, _⟩ => ⟨S128x5632, .bf16⟩
  | .local _ .vmem, ⟨24, _⟩ => ⟨S128x5632, .bf16⟩
  | .local _ .vmem, ⟨25, _⟩ => ⟨S128x5632, .bf16⟩
  | .local _ .vmem, ⟨26, _⟩ => ⟨S128x5632, .bf16⟩
  | .local _ .vmem, ⟨27, _⟩ => ⟨S352x2048, .bf16⟩
  | .local _ .vmem, ⟨28, _⟩ => ⟨S352x2048, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S352x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S400x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S352x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S8192x128 : Shape := ⟨2, ![8192, 128]⟩
abbrev S128x128 : Shape := ⟨2, ![128, 128]⟩
abbrev S1x128 : Shape := ⟨2, ![1, 128]⟩
abbrev S6176x2048 : Shape := ⟨2, ![6176, 2048]⟩
abbrev S2048x5632 : Shape := ⟨2, ![2048, 5632]⟩
abbrev S5632x2048 : Shape := ⟨2, ![5632, 2048]⟩
abbrev S8192x384 : Shape := ⟨2, ![8192, 384]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S6176x2048, .f32⟩
  | .hbm, ⟨11, _⟩ => ⟨S2048x5632, .f32⟩
  | .hbm, ⟨12, _⟩ => ⟨S2048x5632, .f32⟩
  | .hbm, ⟨13, _⟩ => ⟨S5632x2048, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .bf16⟩
  | .hbm, ⟨33, _⟩ => ⟨S8192x128, .f32⟩
  | .hbm, ⟨34, _⟩ => ⟨S8192x128, .f32⟩
  | .hbm, ⟨35, _⟩ => ⟨S8192x128, .bf16⟩
  | .hbm, ⟨36, _⟩ => ⟨S8192x384, .bf16⟩
  | .hbm, ⟨37, _⟩ => ⟨S6176x2048, .bf16⟩
  | .hbm, ⟨38, _⟩ => ⟨S2048x5632, .bf16⟩
  | .hbm, ⟨39, _⟩ => ⟨S2048x5632, .bf16⟩
  | .hbm, ⟨40, _⟩ => ⟨S5632x2048, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel7.lean ====
abbrev S8192x384 : Shape := ⟨2, ![8192, 384]⟩
abbrev S384x2048 : Shape := ⟨2, ![384, 2048]⟩
abbrev S1x1024 : Shape := ⟨2, ![1, 1024]⟩
abbrev S64x256x256 : Shape := ⟨3, ![64, 256, 256]⟩
abbrev S128x256 : Shape := ⟨2, ![128, 256]⟩
abbrev S8192x2048 : Shape := ⟨2, ![8192, 2048]⟩
abbrev S8x1024 : Shape := ⟨2, ![8, 1024]⟩
abbrev S384x256 : Shape := ⟨2, ![384, 256]⟩
abbrev S1x128 : Shape := ⟨2, ![1, 128]⟩
abbrev S8192x256 : Shape := ⟨2, ![8192, 256]⟩
abbrev S8x128 : Shape := ⟨2, ![8, 128]⟩
abbrev S17408x128 : Shape := ⟨2, ![17408, 128]⟩
abbrev S34816x128 : Shape := ⟨2, ![34816, 128]⟩
abbrev S128x128 : Shape := ⟨2, ![128, 128]⟩
abbrev S128x384 : Shape := ⟨2, ![128, 384]⟩
abbrev S128 : Shape := ⟨1, ![128]⟩
abbrev S256x256 : Shape := ⟨2, ![256, 256]⟩
abbrev S1x256x256 : Shape := ⟨3, ![1, 256, 256]⟩
abbrev S1x256 : Shape := ⟨2, ![1, 256]⟩
abbrev S64x256 : Shape := ⟨2, ![64, 256]⟩
abbrev S256x128 : Shape := ⟨2, ![256, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S1x1024, .f32⟩
  | .hbm, ⟨3, _⟩ => ⟨S64x256x256, .bf16⟩
  | .hbm, ⟨4, _⟩ => ⟨S128x256, .bf16⟩
  | .hbm, ⟨5, _⟩ => ⟨S8192x2048, .bf16⟩
  | .hbm, ⟨6, _⟩ => ⟨S8x1024, .f32⟩
  | .local _ .vmem, ⟨0, _⟩ => ⟨S8192x384, .bf16⟩
  | .local _ .vmem, ⟨1, _⟩ => ⟨S384x256, .bf16⟩
  | .local _ .vmem, ⟨2, _⟩ => ⟨S384x256, .bf16⟩
  | .local _ .vmem, ⟨3, _⟩ => ⟨S1x128, .f32⟩
  | .local _ .vmem, ⟨4, _⟩ => ⟨S1x128, .f32⟩
  | .local _ .vmem, ⟨5, _⟩ => ⟨S64x256x256, .bf16⟩
  | .local _ .vmem, ⟨6, _⟩ => ⟨S128x256, .bf16⟩
  | .local _ .vmem, ⟨7, _⟩ => ⟨S8192x256, .bf16⟩
  | .local _ .vmem, ⟨8, _⟩ => ⟨S8192x256, .bf16⟩
  | .local _ .vmem, ⟨9, _⟩ => ⟨S8x128, .f32⟩
  | .local _ .vmem, ⟨10, _⟩ => ⟨S8x128, .f32⟩
  | .local _ .vmem, ⟨11, _⟩ => ⟨S17408x128, .f32⟩
  | .local _ .vmem, ⟨12, _⟩ => ⟨S34816x128, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
def k0_mult2 : BitVec 32 :=
  let c0_i32_18 : BitVec 32 := 0#32
  c0_i32_18
def k0_mult3 : BitVec 32 :=
  let c8704_i32 : BitVec 32 := 8704#32
  c8704_i32
@[reducible] def k0_t1_loop : Scf.Loop 32 :=
  let c1_i32 : BitVec 32 := 1#32
  let c62_i32 : BitVec 32 := 62#32
  let v54 : BitVec 32 := Scalar.addi c1_i32 c62_i32
  let c1_i32_21 : BitVec 32 := 1#32
  ⟨c1_i32, v54, c1_i32_21⟩
def k0_mult4 (k0_t1 : Fin k0_t1_loop.trips) : BitVec 32 :=
  let c1_i32 : BitVec 32 := 1#32
  let c1_i32_21 : BitVec 32 := 1#32
  let arg10 : BitVec 32 := Scf.iv c1_i32 c1_i32_21 k0_t1
  let c128_i32_53 : BitVec 32 := 128#32
  let v136 : BitVec 32 := Scalar.muli arg10 c128_i32_53
  v136
def k0_off1 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let c128_i32_53 : BitVec 32 := 128#32
  let v136 : BitVec 32 := Scalar.muli arg10 c128_i32_53
  let v137 : BitVec 32 := v136
  let v138 : Index := Scalar.indexCast v137
  let c0_54 : Index := 0#32
  ![v138.toNat, 0]
def k0_mult5 (k0_t1 : Fin k0_t1_loop.trips) : BitVec 32 :=
  let c1_i32 : BitVec 32 := 1#32
  let c1_i32_21 : BitVec 32 := 1#32
  let arg10 : BitVec 32 := Scf.iv c1_i32 c1_i32_21 k0_t1
  let c136_i32 : BitVec 32 := 136#32
  let v155 : BitVec 32 := Scalar.muli arg10 c136_i32
  v155
def k0_off2 (k0_t1 : Fin k0_t1_loop.trips) : Fin 2 → Nat :=
  let c1_i32 : BitVec 32 := 1#32
  let c1_i32_21 : BitVec 32 := 1#32
  let arg10 : BitVec 32 := Scf.iv c1_i32 c1_i32_21 k0_t1
  let c136_i32 : BitVec 32 := 136#32
  let v155 : BitVec 32 := Scalar.muli arg10 c136_i32
  let v156 : BitVec 32 := v155
  let v157 : Index := Scalar.indexCast v156
  let c0_58 : Index := 0#32
  ![v157.toNat, 0]
def k0_mult6 (k0_t1 : Fin k0_t1_loop.trips) : BitVec 32 :=
  let c64_i32 : BitVec 32 := 64#32
  let c1_i32 : BitVec 32 := 1#32
  let c1_i32_21 : BitVec 32 := 1#32
  let arg10 : BitVec 32 := Scf.iv c1_i32 c1_i32_21 k0_t1
  let v161 : BitVec 32 := Scalar.addi c64_i32 arg10
  let c136_i32_59 : BitVec 32 := 136#32
  let v162 : BitVec 32 := Scalar.muli v161 c136_i32_59
  v162
def k0_off3 (k0_t1 : Fin k0_t1_loop.trips) : Fin 2 → Nat :=
  let c64_i32 : BitVec 32 := 64#32
  let c1_i32 : BitVec 32 := 1#32
  let c1_i32_21 : BitVec 32 := 1#32
  let arg10 : BitVec 32 := Scf.iv c1_i32 c1_i32_21 k0_t1
  let v161 : BitVec 32 := Scalar.addi c64_i32 arg10
  let c136_i32_59 : BitVec 32 := 136#32
  let v162 : BitVec 32 := Scalar.muli v161 c136_i32_59
  let v163 : BitVec 32 := v162
  let v164 : Index := Scalar.indexCast v163
  let c0_60 : Index := 0#32
  ![v164.toNat, 0]
def k0_mult7 : BitVec 32 :=
  let c8064_i32 : BitVec 32 := 8064#32
  c8064_i32
def k0_mult8 : BitVec 32 :=
  let c8568_i32 : BitVec 32 := 8568#32
  c8568_i32
def k0_mult9 : BitVec 32 :=
  let c17272_i32 : BitVec 32 := 17272#32
  c17272_i32
@[reducible] def k0_t2_loop : Scf.Loop 32 :=
  let c0_i32_44 : BitVec 32 := 0#32
  let c4_i32 : BitVec 32 := 4#32
  let v124 : BitVec 32 := Scalar.addi c0_i32_44 c4_i32
  let c1_i32_45 : BitVec 32 := 1#32
  ⟨c0_i32_44, v124, c1_i32_45⟩
def k0_off4 (k0_t2 : Fin k0_t2_loop.trips) (c0_i32_53 : BitVec 32) : Fin 2 → Nat :=
  let c2_i32_72 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v168 : BitVec 32 := Scalar.muli c2_i32_72 v137
  let v169 : Index := Scalar.indexCast v168
  let c0_73 : Index := 0#32
  ![v169.toNat, 0]
def k0_off5 (k0_t2 : Fin k0_t2_loop.trips) (c0_i32_53 : BitVec 32) : Fin 2 → Nat :=
  let c2_i32_74 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v171 : BitVec 32 := Scalar.muli c2_i32_74 v137
  let c1_i32_75 : BitVec 32 := 1#32
  let v172 : BitVec 32 := Scalar.addi v171 c1_i32_75
  let v173 : Index := Scalar.indexCast v172
  let c0_76 : Index := 0#32
  ![v173.toNat, 0]
def k0_off6 (k0_t2 : Fin k0_t2_loop.trips) (c0_i32_53 : BitVec 32) : Fin 3 → Nat :=
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v360 : Index := Scalar.indexCast v137
  let c0_168 : Index := 0#32
  let c0_169 : Index := 0#32
  ![v360.toNat, 0, 0]
def k0_off7 (k0_t2 : Fin k0_t2_loop.trips) (c0_i32_53 : BitVec 32) : Fin 2 → Nat :=
  let c2_i32_216 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v425 : BitVec 32 := Scalar.muli c2_i32_216 v137
  let v426 : Index := Scalar.indexCast v425
  let c0_217 : Index := 0#32
  ![v426.toNat, 0]
def k0_off8 (k0_t2 : Fin k0_t2_loop.trips) (c0_i32_53 : BitVec 32) : Fin 2 → Nat :=
  let c17408_i32 : BitVec 32 := 17408#32
  let c2_i32_218 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v431 : BitVec 32 := Scalar.muli c2_i32_218 v137
  let v432 : BitVec 32 := Scalar.addi c17408_i32 v431
  let v433 : Index := Scalar.indexCast v432
  let c0_219 : Index := 0#32
  ![v433.toNat, 0]
def k0_off9 (k0_t2 : Fin k0_t2_loop.trips) (c0_i32_53 : BitVec 32) : Fin 2 → Nat :=
  let c2_i32_220 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v438 : BitVec 32 := Scalar.muli c2_i32_220 v137
  let c1_i32_221 : BitVec 32 := 1#32
  let v439 : BitVec 32 := Scalar.addi v438 c1_i32_221
  let v440 : Index := Scalar.indexCast v439
  let c0_222 : Index := 0#32
  ![v440.toNat, 0]
def k0_off10 (k0_t2 : Fin k0_t2_loop.trips) (c0_i32_53 : BitVec 32) : Fin 2 → Nat :=
  let c17408_i32_224 : BitVec 32 := 17408#32
  let c2_i32_223 : BitVec 32 := 2#32
  let c0_i32_44 : BitVec 32 := 0#32
  let c1_i32_45 : BitVec 32 := 1#32
  let arg10 : BitVec 32 := Scf.iv c0_i32_44 c1_i32_45 k0_t2
  let c16_i32 : BitVec 32 := 16#32
  let v136 : BitVec 32 := Scalar.muli arg10 c16_i32
  let v137 : BitVec 32 := Scalar.addi v136 c0_i32_53
  let v445 : BitVec 32 := Scalar.muli c2_i32_223 v137
  let v446 : BitVec 32 := Scalar.addi c17408_i32_224 v445
  let c1_i32_225 : BitVec 32 := 1#32
  let v447 : BitVec 32 := Scalar.addi v446 c1_i32_225
  let v448 : Index := Scalar.indexCast v447
  let c0_226 : Index := 0#32
  ![v448.toNat, 0]
@[reducible] def k0_t3_loop : Scf.Loop 32 :=
  let c0_i32_49 : BitVec 32 := 0#32
  let c4_i32_50 : BitVec 32 := 4#32
  let v135 : BitVec 32 := Scalar.addi c0_i32_49 c4_i32_50
  let c1_i32_51 : BitVec 32 := 1#32
  ⟨c0_i32_49, v135, c1_i32_51⟩
def k0_mult10 (k0_t3 : Fin k0_t3_loop.trips) : BitVec 32 :=
  let c2_i32_72 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let c0_i32_53 : BitVec 32 := 0#32
  let v137 : BitVec 32 := Scalar.addi v136 c0_i32_53
  let v168 : BitVec 32 := Scalar.muli c2_i32_72 v137
  let c0_i32_73 : BitVec 32 := 0#32
  let v169 : BitVec 32 := Scalar.addi v168 c0_i32_73
  let c136_i32 : BitVec 32 := 136#32
  let v170 : BitVec 32 := Scalar.muli v169 c136_i32
  v170
def k0_off11 (k0_t3 : Fin k0_t3_loop.trips) (c0_i32_53 : BitVec 32) (c0_i32_73 : BitVec 32) : Fin 2 → Nat :=
  let c2_i32_72 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let v137 : BitVec 32 := Scalar.addi v136 c0_i32_53
  let v168 : BitVec 32 := Scalar.muli c2_i32_72 v137
  let v169 : BitVec 32 := Scalar.addi v168 c0_i32_73
  let c136_i32 : BitVec 32 := 136#32
  let v170 : BitVec 32 := Scalar.muli v169 c136_i32
  let v171 : BitVec 32 := v170
  let v172 : Index := Scalar.indexCast v171
  let c0_74 : Index := 0#32
  ![v172.toNat, 0]
def k0_mult11 (k0_t3 : Fin k0_t3_loop.trips) : BitVec 32 :=
  let c128_i32_75 : BitVec 32 := 128#32
  let c2_i32_72 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let c0_i32_53 : BitVec 32 := 0#32
  let v137 : BitVec 32 := Scalar.addi v136 c0_i32_53
  let v168 : BitVec 32 := Scalar.muli c2_i32_72 v137
  let c0_i32_73 : BitVec 32 := 0#32
  let v169 : BitVec 32 := Scalar.addi v168 c0_i32_73
  let v174 : BitVec 32 := Scalar.addi c128_i32_75 v169
  let c136_i32_76 : BitVec 32 := 136#32
  let v175 : BitVec 32 := Scalar.muli v174 c136_i32_76
  v175
def k0_off12 (k0_t3 : Fin k0_t3_loop.trips) (c0_i32_53 : BitVec 32) (c0_i32_73 : BitVec 32) : Fin 2 → Nat :=
  let c128_i32_75 : BitVec 32 := 128#32
  let c2_i32_72 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let v137 : BitVec 32 := Scalar.addi v136 c0_i32_53
  let v168 : BitVec 32 := Scalar.muli c2_i32_72 v137
  let v169 : BitVec 32 := Scalar.addi v168 c0_i32_73
  let v174 : BitVec 32 := Scalar.addi c128_i32_75 v169
  let c136_i32_76 : BitVec 32 := 136#32
  let v175 : BitVec 32 := Scalar.muli v174 c136_i32_76
  let v176 : BitVec 32 := v175
  let v177 : Index := Scalar.indexCast v176
  let c0_77 : Index := 0#32
  ![v177.toNat, 0]
def k0_mult12 (k0_t3 : Fin k0_t3_loop.trips) : BitVec 32 :=
  let c2_i32_78 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let c0_i32_53 : BitVec 32 := 0#32
  let v137 : BitVec 32 := Scalar.addi v136 c0_i32_53
  let v180 : BitVec 32 := Scalar.muli c2_i32_78 v137
  let c1_i32_79 : BitVec 32 := 1#32
  let v181 : BitVec 32 := Scalar.addi v180 c1_i32_79
  let c136_i32_80 : BitVec 32 := 136#32
  let v182 : BitVec 32 := Scalar.muli v181 c136_i32_80
  v182
def k0_mult13 (k0_t3 : Fin k0_t3_loop.trips) : BitVec 32 :=
  let c128_i32_82 : BitVec 32 := 128#32
  let c2_i32_78 : BitVec 32 := 2#32
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let c0_i32_53 : BitVec 32 := 0#32
  let v137 : BitVec 32 := Scalar.addi v136 c0_i32_53
  let v180 : BitVec 32 := Scalar.muli c2_i32_78 v137
  let c1_i32_79 : BitVec 32 := 1#32
  let v181 : BitVec 32 := Scalar.addi v180 c1_i32_79
  let v186 : BitVec 32 := Scalar.addi c128_i32_82 v181
  let c136_i32_83 : BitVec 32 := 136#32
  let v187 : BitVec 32 := Scalar.muli v186 c136_i32_83
  v187
def k0_mult14 (k0_t3 : Fin k0_t3_loop.trips) : BitVec 32 :=
  let c2_i32_86 : BitVec 32 := 2#32
  let c0_i32_49 : BitVec 32 := 0#32
  let c1_i32_51 : BitVec 32 := 1#32
  let arg10 : BitVec 32 := Scf.iv c0_i32_49 c1_i32_51 k0_t3
  let c16_i32_54 : BitVec 32 := 16#32
  let v138 : BitVec 32 := Scalar.muli arg10 c16_i32_54
  let c1_i32_55 : BitVec 32 := 1#32
  let v139 : BitVec 32 := Scalar.addi v138 c1_i32_55
  let v195 : BitVec 32 := Scalar.muli c2_i32_86 v139
  let c0_i32_87 : BitVec 32 := 0#32
  let v196 : BitVec 32 := Scalar.addi v195 c0_i32_87
  let c136_i32_88 : BitVec 32 := 136#32
  let v197 : BitVec 32 := Scalar.muli v196 c136_i32_88
  v197
def k0_mult15 (k0_t3 : Fin k0_t3_loop.trips) : BitVec 32 :=
  let c128_i32_90 : BitVec 32 := 128#32
  let c2_i32_86 : BitVec 32 := 2#32
  let c0_i32_49 : BitVec 32 := 0#32
  let c1_i32_51 : BitVec 32 := 1#32
  let arg10 : BitVec 32 := Scf.iv c0_i32_49 c1_i32_51 k0_t3
  let c16_i32_54 : BitVec 32 := 16#32
  let v138 : BitVec 32 := Scalar.muli arg10 c16_i32_54
  let c1_i32_55 : BitVec 32 := 1#32
  let v139 : BitVec 32 := Scalar.addi v138 c1_i32_55
  let v195 : BitVec 32 := Scalar.muli c2_i32_86 v139
  let c0_i32_87 : BitVec 32 := 0#32
  let v196 : BitVec 32 := Scalar.addi v195 c0_i32_87
  let v201 : BitVec 32 := Scalar.addi c128_i32_90 v196
  let c136_i32_91 : BitVec 32 := 136#32
  let v202 : BitVec 32 := Scalar.muli v201 c136_i32_91
  v202
def k0_mult16 (k0_t3 : Fin k0_t3_loop.trips) : BitVec 32 :=
  let c2_i32_93 : BitVec 32 := 2#32
  let c0_i32_49 : BitVec 32 := 0#32
  let c1_i32_51 : BitVec 32 := 1#32
  let arg10 : BitVec 32 := Scf.iv c0_i32_49 c1_i32_51 k0_t3
  let c16_i32_54 : BitVec 32 := 16#32
  let v138 : BitVec 32 := Scalar.muli arg10 c16_i32_54
  let c1_i32_55 : BitVec 32 := 1#32
  let v139 : BitVec 32 := Scalar.addi v138 c1_i32_55
  let v207 : BitVec 32 := Scalar.muli c2_i32_93 v139
  let c1_i32_94 : BitVec 32 := 1#32
  let v208 : BitVec 32 := Scalar.addi v207 c1_i32_94
  let c136_i32_95 : BitVec 32 := 136#32
  let v209 : BitVec 32 := Scalar.muli v208 c136_i32_95
  v209
def k0_mult17 (k0_t3 : Fin k0_t3_loop.trips) : BitVec 32 :=
  let c128_i32_97 : BitVec 32 := 128#32
  let c2_i32_93 : BitVec 32 := 2#32
  let c0_i32_49 : BitVec 32 := 0#32
  let c1_i32_51 : BitVec 32 := 1#32
  let arg10 : BitVec 32 := Scf.iv c0_i32_49 c1_i32_51 k0_t3
  let c16_i32_54 : BitVec 32 := 16#32
  let v138 : BitVec 32 := Scalar.muli arg10 c16_i32_54
  let c1_i32_55 : BitVec 32 := 1#32
  let v139 : BitVec 32 := Scalar.addi v138 c1_i32_55
  let v207 : BitVec 32 := Scalar.muli c2_i32_93 v139
  let c1_i32_94 : BitVec 32 := 1#32
  let v208 : BitVec 32 := Scalar.addi v207 c1_i32_94
  let v213 : BitVec 32 := Scalar.addi c128_i32_97 v208
  let c136_i32_98 : BitVec 32 := 136#32
  let v214 : BitVec 32 := Scalar.muli v213 c136_i32_98
  v214
def k0_mult18 (k0_t3 : Fin k0_t3_loop.trips) : BitVec 32 :=
  let c2_i32_101 : BitVec 32 := 2#32
  let c0_i32_49 : BitVec 32 := 0#32
  let c1_i32_51 : BitVec 32 := 1#32
  let arg10 : BitVec 32 := Scf.iv c0_i32_49 c1_i32_51 k0_t3
  let c16_i32_56 : BitVec 32 := 16#32
  let v140 : BitVec 32 := Scalar.muli arg10 c16_i32_56
  let c2_i32_57 : BitVec 32 := 2#32
  let v141 : BitVec 32 := Scalar.addi v140 c2_i32_57
  let v222 : BitVec 32 := Scalar.muli c2_i32_101 v141
  let c0_i32_102 : BitVec 32 := 0#32
  let v223 : BitVec 32 := Scalar.addi v222 c0_i32_102
  let c136_i32_103 : BitVec 32 := 136#32
  let v224 : BitVec 32 := Scalar.muli v223 c136_i32_103
  v224
def k0_mult19 (k0_t3 : Fin k0_t3_loop.trips) : BitVec 32 :=
  let c128_i32_105 : BitVec 32 := 128#32
  let c2_i32_101 : BitVec 32 := 2#32
  let c0_i32_49 : BitVec 32 := 0#32
  let c1_i32_51 : BitVec 32 := 1#32
  let arg10 : BitVec 32 := Scf.iv c0_i32_49 c1_i32_51 k0_t3
  let c16_i32_56 : BitVec 32 := 16#32
  let v140 : BitVec 32 := Scalar.muli arg10 c16_i32_56
  let c2_i32_57 : BitVec 32 := 2#32
  let v141 : BitVec 32 := Scalar.addi v140 c2_i32_57
  let v222 : BitVec 32 := Scalar.muli c2_i32_101 v141
  let c0_i32_102 : BitVec 32 := 0#32
  let v223 : BitVec 32 := Scalar.addi v222 c0_i32_102
  let v228 : BitVec 32 := Scalar.addi c128_i32_105 v223
  let c136_i32_106 : BitVec 32 := 136#32
  let v229 : BitVec 32 := Scalar.muli v228 c136_i32_106
  v229
def k0_mult20 (k0_t3 : Fin k0_t3_loop.trips) : BitVec 32 :=
  let c2_i32_108 : BitVec 32 := 2#32
  let c0_i32_49 : BitVec 32 := 0#32
  let c1_i32_51 : BitVec 32 := 1#32
  let arg10 : BitVec 32 := Scf.iv c0_i32_49 c1_i32_51 k0_t3
  let c16_i32_56 : BitVec 32 := 16#32
  let v140 : BitVec 32 := Scalar.muli arg10 c16_i32_56
  let c2_i32_57 : BitVec 32 := 2#32
  let v141 : BitVec 32 := Scalar.addi v140 c2_i32_57
  let v234 : BitVec 32 := Scalar.muli c2_i32_108 v141
  let c1_i32_109 : BitVec 32 := 1#32
  let v235 : BitVec 32 := Scalar.addi v234 c1_i32_109
  let c136_i32_110 : BitVec 32 := 136#32
  let v236 : BitVec 32 := Scalar.muli v235 c136_i32_110
  v236
def k0_mult21 (k0_t3 : Fin k0_t3_loop.trips) : BitVec 32 :=
  let c128_i32_112 : BitVec 32 := 128#32
  let c2_i32_108 : BitVec 32 := 2#32
  let c0_i32_49 : BitVec 32 := 0#32
  let c1_i32_51 : BitVec 32 := 1#32
  let arg10 : BitVec 32 := Scf.iv c0_i32_49 c1_i32_51 k0_t3
  let c16_i32_56 : BitVec 32 := 16#32
  let v140 : BitVec 32 := Scalar.muli arg10 c16_i32_56
  let c2_i32_57 : BitVec 32 := 2#32
  let v141 : BitVec 32 := Scalar.addi v140 c2_i32_57
  let v234 : BitVec 32 := Scalar.muli c2_i32_108 v141
  let c1_i32_109 : BitVec 32 := 1#32
  let v235 : BitVec 32 := Scalar.addi v234 c1_i32_109
  let v240 : BitVec 32 := Scalar.addi c128_i32_112 v235
  let c136_i32_113 : BitVec 32 := 136#32
  let v241 : BitVec 32 := Scalar.muli v240 c136_i32_113
  v241
def k0_mult22 (k0_t3 : Fin k0_t3_loop.trips) : BitVec 32 :=
  let c2_i32_116 : BitVec 32 := 2#32
  let c0_i32_49 : BitVec 32 := 0#32
  let c1_i32_51 : BitVec 32 := 1#32
  let arg10 : BitVec 32 := Scf.iv c0_i32_49 c1_i32_51 k0_t3
  let c16_i32_58 : BitVec 32 := 16#32
  let v142 : BitVec 32 := Scalar.muli arg10 c16_i32_58
  let c3_i32 : BitVec 32 := 3#32
  let v143 : BitVec 32 := Scalar.addi v142 c3_i32
  let v249 : BitVec 32 := Scalar.muli c2_i32_116 v143
  let c0_i32_117 : BitVec 32 := 0#32
  let v250 : BitVec 32 := Scalar.addi v249 c0_i32_117
  let c136_i32_118 : BitVec 32 := 136#32
  let v251 : BitVec 32 := Scalar.muli v250 c136_i32_118
  v251
def k0_mult23 (k0_t3 : Fin k0_t3_loop.trips) : BitVec 32 :=
  let c128_i32_120 : BitVec 32 := 128#32
  let c2_i32_116 : BitVec 32 := 2#32
  let c0_i32_49 : BitVec 32 := 0#32
  let c1_i32_51 : BitVec 32 := 1#32
  let arg10 : BitVec 32 := Scf.iv c0_i32_49 c1_i32_51 k0_t3
  let c16_i32_58 : BitVec 32 := 16#32
  let v142 : BitVec 32 := Scalar.muli arg10 c16_i32_58
  let c3_i32 : BitVec 32 := 3#32
  let v143 : BitVec 32 := Scalar.addi v142 c3_i32
  let v249 : BitVec 32 := Scalar.muli c2_i32_116 v143
  let c0_i32_117 : BitVec 32 := 0#32
  let v250 : BitVec 32 := Scalar.addi v249 c0_i32_117
  let v255 : BitVec 32 := Scalar.addi c128_i32_120 v250
  let c136_i32_121 : BitVec 32 := 136#32
  let v256 : BitVec 32 := Scalar.muli v255 c136_i32_121
  v256
def k0_mult24 (k0_t3 : Fin k0_t3_loop.trips) : BitVec 32 :=
  let c2_i32_123 : BitVec 32 := 2#32
  let c0_i32_49 : BitVec 32 := 0#32
  let c1_i32_51 : BitVec 32 := 1#32
  let arg10 : BitVec 32 := Scf.iv c0_i32_49 c1_i32_51 k0_t3
  let c16_i32_58 : BitVec 32 := 16#32
  let v142 : BitVec 32 := Scalar.muli arg10 c16_i32_58
  let c3_i32 : BitVec 32 := 3#32
  let v143 : BitVec 32 := Scalar.addi v142 c3_i32
  let v261 : BitVec 32 := Scalar.muli c2_i32_123 v143
  let c1_i32_124 : BitVec 32 := 1#32
  let v262 : BitVec 32 := Scalar.addi v261 c1_i32_124
  let c136_i32_125 : BitVec 32 := 136#32
  let v263 : BitVec 32 := Scalar.muli v262 c136_i32_125
  v263
def k0_mult25 (k0_t3 : Fin k0_t3_loop.trips) : BitVec 32 :=
  let c128_i32_127 : BitVec 32 := 128#32
  let c2_i32_123 : BitVec 32 := 2#32
  let c0_i32_49 : BitVec 32 := 0#32
  let c1_i32_51 : BitVec 32 := 1#32
  let arg10 : BitVec 32 := Scf.iv c0_i32_49 c1_i32_51 k0_t3
  let c16_i32_58 : BitVec 32 := 16#32
  let v142 : BitVec 32 := Scalar.muli arg10 c16_i32_58
  let c3_i32 : BitVec 32 := 3#32
  let v143 : BitVec 32 := Scalar.addi v142 c3_i32
  let v261 : BitVec 32 := Scalar.muli c2_i32_123 v143
  let c1_i32_124 : BitVec 32 := 1#32
  let v262 : BitVec 32 := Scalar.addi v261 c1_i32_124
  let v267 : BitVec 32 := Scalar.addi c128_i32_127 v262
  let c136_i32_128 : BitVec 32 := 136#32
  let v268 : BitVec 32 := Scalar.muli v267 c136_i32_128
  v268
def k0_mult26 (k0_t3 : Fin k0_t3_loop.trips) : BitVec 32 :=
  let c2_i32_131 : BitVec 32 := 2#32
  let c0_i32_49 : BitVec 32 := 0#32
  let c1_i32_51 : BitVec 32 := 1#32
  let arg10 : BitVec 32 := Scf.iv c0_i32_49 c1_i32_51 k0_t3
  let c16_i32_59 : BitVec 32 := 16#32
  let v144 : BitVec 32 := Scalar.muli arg10 c16_i32_59
  let c4_i32_60 : BitVec 32 := 4#32
  let v145 : BitVec 32 := Scalar.addi v144 c4_i32_60
  let v276 : BitVec 32 := Scalar.muli c2_i32_131 v145
  let c0_i32_132 : BitVec 32 := 0#32
  let v277 : BitVec 32 := Scalar.addi v276 c0_i32_132
  let c136_i32_133 : BitVec 32 := 136#32
  let v278 : BitVec 32 := Scalar.muli v277 c136_i32_133
  v278
def k0_mult27 (k0_t3 : Fin k0_t3_loop.trips) : BitVec 32 :=
  let c128_i32_135 : BitVec 32 := 128#32
  let c2_i32_131 : BitVec 32 := 2#32
  let c0_i32_49 : BitVec 32 := 0#32
  let c1_i32_51 : BitVec 32 := 1#32
  let arg10 : BitVec 32 := Scf.iv c0_i32_49 c1_i32_51 k0_t3
  let c16_i32_59 : BitVec 32 := 16#32
  let v144 : BitVec 32 := Scalar.muli arg10 c16_i32_59
  let c4_i32_60 : BitVec 32 := 4#32
  let v145 : BitVec 32 := Scalar.addi v144 c4_i32_60
  let v276 : BitVec 32 := Scalar.muli c2_i32_131 v145
  let c0_i32_132 : BitVec 32 := 0#32
  let v277 : BitVec 32 := Scalar.addi v276 c0_i32_132
  let v282 : BitVec 32 := Scalar.addi c128_i32_135 v277
  let c136_i32_136 : BitVec 32 := 136#32
  let v283 : BitVec 32 := Scalar.muli v282 c136_i32_136
  v283
def k0_mult28 (k0_t3 : Fin k0_t3_loop.trips) : BitVec 32 :=
  let c2_i32_138 : BitVec 32 := 2#32
  let c0_i32_49 : BitVec 32 := 0#32
  let c1_i32_51 : BitVec 32 := 1#32
  let arg10 : BitVec 32 := Scf.iv c0_i32_49 c1_i32_51 k0_t3
  let c16_i32_59 : BitVec 32 := 16#32
  let v144 : BitVec 32 := Scalar.muli arg10 c16_i32_59
  let c4_i32_60 : BitVec 32 := 4#32
  let v145 : BitVec 32 := Scalar.addi v144 c4_i32_60
  let v288 : BitVec 32 := Scalar.muli c2_i32_138 v145
  let c1_i32_139 : BitVec 32 := 1#32
  let v289 : BitVec 32 := Scalar.addi v288 c1_i32_139
  let c136_i32_140 : BitVec 32 := 136#32
  let v290 : BitVec 32 := Scalar.muli v289 c136_i32_140
  v290
def k0_mult29 (k0_t3 : Fin k0_t3_loop.trips) : BitVec 32 :=
  let c128_i32_142 : BitVec 32 := 128#32
  let c2_i32_138 : BitVec 32 := 2#32
  let c0_i32_49 : BitVec 32 := 0#32
  let c1_i32_51 : BitVec 32 := 1#32
  let arg10 : BitVec 32 := Scf.iv c0_i32_49 c1_i32_51 k0_t3
  let c16_i32_59 : BitVec 32 := 16#32
  let v144 : BitVec 32 := Scalar.muli arg10 c16_i32_59
  let c4_i32_60 : BitVec 32 := 4#32
  let v145 : BitVec 32 := Scalar.addi v144 c4_i32_60
  let v288 : BitVec 32 := Scalar.muli c2_i32_138 v145
  let c1_i32_139 : BitVec 32 := 1#32
  let v289 : BitVec 32 := Scalar.addi v288 c1_i32_139
  let v294 : BitVec 32 := Scalar.addi c128_i32_142 v289
  let c136_i32_143 : BitVec 32 := 136#32
  let v295 : BitVec 32 := Scalar.muli v294 c136_i32_143
  v295
def k0_mult30 (k0_t3 : Fin k0_t3_loop.trips) : BitVec 32 :=
  let c2_i32_146 : BitVec 32 := 2#32
  let c0_i32_49 : BitVec 32 := 0#32
  let c1_i32_51 : BitVec 32 := 1#32
  let arg10 : BitVec 32 := Scf.iv c0_i32_49 c1_i32_51 k0_t3
  let c16_i32_61 : BitVec 32 := 16#32
  let v146 : BitVec 32 := Scalar.muli arg10 c16_i32_61
  let c5_i32 : BitVec 32 := 5#32
  let v147 : BitVec 32 := Scalar.addi v146 c5_i32
  let v303 : BitVec 32 := Scalar.muli c2_i32_146 v147
  let c0_i32_147 : BitVec 32 := 0#32
  let v304 : BitVec 32 := Scalar.addi v303 c0_i32_147
  let c136_i32_148 : BitVec 32 := 136#32
  let v305 : BitVec 32 := Scalar.muli v304 c136_i32_148
  v305
def k0_mult31 (k0_t3 : Fin k0_t3_loop.trips) : BitVec 32 :=
  let c128_i32_150 : BitVec 32 := 128#32
  let c2_i32_146 : BitVec 32 := 2#32
  let c0_i32_49 : BitVec 32 := 0#32
  let c1_i32_51 : BitVec 32 := 1#32
  let arg10 : BitVec 32 := Scf.iv c0_i32_49 c1_i32_51 k0_t3
  let c16_i32_61 : BitVec 32 := 16#32
  let v146 : BitVec 32 := Scalar.muli arg10 c16_i32_61
  let c5_i32 : BitVec 32 := 5#32
  let v147 : BitVec 32 := Scalar.addi v146 c5_i32
  let v303 : BitVec 32 := Scalar.muli c2_i32_146 v147
  let c0_i32_147 : BitVec 32 := 0#32
  let v304 : BitVec 32 := Scalar.addi v303 c0_i32_147
  let v309 : BitVec 32 := Scalar.addi c128_i32_150 v304
  let c136_i32_151 : BitVec 32 := 136#32
  let v310 : BitVec 32 := Scalar.muli v309 c136_i32_151
  v310
def k0_mult32 (k0_t3 : Fin k0_t3_loop.trips) : BitVec 32 :=
  let c2_i32_153 : BitVec 32 := 2#32
  let c0_i32_49 : BitVec 32 := 0#32
  let c1_i32_51 : BitVec 32 := 1#32
  let arg10 : BitVec 32 := Scf.iv c0_i32_49 c1_i32_51 k0_t3
  let c16_i32_61 : BitVec 32 := 16#32
  let v146 : BitVec 32 := Scalar.muli arg10 c16_i32_61
  let c5_i32 : BitVec 32 := 5#32
  let v147 : BitVec 32 := Scalar.addi v146 c5_i32
  let v315 : BitVec 32 := Scalar.muli c2_i32_153 v147
  let c1_i32_154 : BitVec 32 := 1#32
  let v316 : BitVec 32 := Scalar.addi v315 c1_i32_154
  let c136_i32_155 : BitVec 32 := 136#32
  let v317 : BitVec 32 := Scalar.muli v316 c136_i32_155
  v317
def k0_mult33 (k0_t3 : Fin k0_t3_loop.trips) : BitVec 32 :=
  let c128_i32_157 : BitVec 32 := 128#32
  let c2_i32_153 : BitVec 32 := 2#32
  let c0_i32_49 : BitVec 32 := 0#32
  let c1_i32_51 : BitVec 32 := 1#32
  let arg10 : BitVec 32 := Scf.iv c0_i32_49 c1_i32_51 k0_t3
  let c16_i32_61 : BitVec 32 := 16#32
  let v146 : BitVec 32 := Scalar.muli arg10 c16_i32_61
  let c5_i32 : BitVec 32 := 5#32
  let v147 : BitVec 32 := Scalar.addi v146 c5_i32
  let v315 : BitVec 32 := Scalar.muli c2_i32_153 v147
  let c1_i32_154 : BitVec 32 := 1#32
  let v316 : BitVec 32 := Scalar.addi v315 c1_i32_154
  let v321 : BitVec 32 := Scalar.addi c128_i32_157 v316
  let c136_i32_158 : BitVec 32 := 136#32
  let v322 : BitVec 32 := Scalar.muli v321 c136_i32_158
  v322
def k0_mult34 (k0_t3 : Fin k0_t3_loop.trips) : BitVec 32 :=
  let c2_i32_161 : BitVec 32 := 2#32
  let c0_i32_49 : BitVec 32 := 0#32
  let c1_i32_51 : BitVec 32 := 1#32
  let arg10 : BitVec 32 := Scf.iv c0_i32_49 c1_i32_51 k0_t3
  let c16_i32_62 : BitVec 32 := 16#32
  let v148 : BitVec 32 := Scalar.muli arg10 c16_i32_62
  let c6_i32 : BitVec 32 := 6#32
  let v149 : BitVec 32 := Scalar.addi v148 c6_i32
  let v330 : BitVec 32 := Scalar.muli c2_i32_161 v149
  let c0_i32_162 : BitVec 32 := 0#32
  let v331 : BitVec 32 := Scalar.addi v330 c0_i32_162
  let c136_i32_163 : BitVec 32 := 136#32
  let v332 : BitVec 32 := Scalar.muli v331 c136_i32_163
  v332
def k0_mult35 (k0_t3 : Fin k0_t3_loop.trips) : BitVec 32 :=
  let c128_i32_165 : BitVec 32 := 128#32
  let c2_i32_161 : BitVec 32 := 2#32
  let c0_i32_49 : BitVec 32 := 0#32
  let c1_i32_51 : BitVec 32 := 1#32
  let arg10 : BitVec 32 := Scf.iv c0_i32_49 c1_i32_51 k0_t3
  let c16_i32_62 : BitVec 32 := 16#32
  let v148 : BitVec 32 := Scalar.muli arg10 c16_i32_62
  let c6_i32 : BitVec 32 := 6#32
  let v149 : BitVec 32 := Scalar.addi v148 c6_i32
  let v330 : BitVec 32 := Scalar.muli c2_i32_161 v149
  let c0_i32_162 : BitVec 32 := 0#32
  let v331 : BitVec 32 := Scalar.addi v330 c0_i32_162
  let v336 : BitVec 32 := Scalar.addi c128_i32_165 v331
  let c136_i32_166 : BitVec 32 := 136#32
  let v337 : BitVec 32 := Scalar.muli v336 c136_i32_166
  v337
def k0_mult36 (k0_t3 : Fin k0_t3_loop.trips) : BitVec 32 :=
  let c2_i32_168 : BitVec 32 := 2#32
  let c0_i32_49 : BitVec 32 := 0#32
  let c1_i32_51 : BitVec 32 := 1#32
  let arg10 : BitVec 32 := Scf.iv c0_i32_49 c1_i32_51 k0_t3
  let c16_i32_62 : BitVec 32 := 16#32
  let v148 : BitVec 32 := Scalar.muli arg10 c16_i32_62
  let c6_i32 : BitVec 32 := 6#32
  let v149 : BitVec 32 := Scalar.addi v148 c6_i32
  let v342 : BitVec 32 := Scalar.muli c2_i32_168 v149
  let c1_i32_169 : BitVec 32 := 1#32
  let v343 : BitVec 32 := Scalar.addi v342 c1_i32_169
  let c136_i32_170 : BitVec 32 := 136#32
  let v344 : BitVec 32 := Scalar.muli v343 c136_i32_170
  v344
def k0_mult37 (k0_t3 : Fin k0_t3_loop.trips) : BitVec 32 :=
  let c128_i32_172 : BitVec 32 := 128#32
  let c2_i32_168 : BitVec 32 := 2#32
  let c0_i32_49 : BitVec 32 := 0#32
  let c1_i32_51 : BitVec 32 := 1#32
  let arg10 : BitVec 32 := Scf.iv c0_i32_49 c1_i32_51 k0_t3
  let c16_i32_62 : BitVec 32 := 16#32
  let v148 : BitVec 32 := Scalar.muli arg10 c16_i32_62
  let c6_i32 : BitVec 32 := 6#32
  let v149 : BitVec 32 := Scalar.addi v148 c6_i32
  let v342 : BitVec 32 := Scalar.muli c2_i32_168 v149
  let c1_i32_169 : BitVec 32 := 1#32
  let v343 : BitVec 32 := Scalar.addi v342 c1_i32_169
  let v348 : BitVec 32 := Scalar.addi c128_i32_172 v343
  let c136_i32_173 : BitVec 32 := 136#32
  let v349 : BitVec 32 := Scalar.muli v348 c136_i32_173
  v349
def k0_mult38 (k0_t3 : Fin k0_t3_loop.trips) : BitVec 32 :=
  let c2_i32_176 : BitVec 32 := 2#32
  let c0_i32_49 : BitVec 32 := 0#32
  let c1_i32_51 : BitVec 32 := 1#32
  let arg10 : BitVec 32 := Scf.iv c0_i32_49 c1_i32_51 k0_t3
  let c16_i32_63 : BitVec 32 := 16#32
  let v150 : BitVec 32 := Scalar.muli arg10 c16_i32_63
  let c7_i32 : BitVec 32 := 7#32
  let v151 : BitVec 32 := Scalar.addi v150 c7_i32
  let v357 : BitVec 32 := Scalar.muli c2_i32_176 v151
  let c0_i32_177 : BitVec 32 := 0#32
  let v358 : BitVec 32 := Scalar.addi v357 c0_i32_177
  let c136_i32_178 : BitVec 32 := 136#32
  let v359 : BitVec 32 := Scalar.muli v358 c136_i32_178
  v359
def k0_mult39 (k0_t3 : Fin k0_t3_loop.trips) : BitVec 32 :=
  let c128_i32_180 : BitVec 32 := 128#32
  let c2_i32_176 : BitVec 32 := 2#32
  let c0_i32_49 : BitVec 32 := 0#32
  let c1_i32_51 : BitVec 32 := 1#32
  let arg10 : BitVec 32 := Scf.iv c0_i32_49 c1_i32_51 k0_t3
  let c16_i32_63 : BitVec 32 := 16#32
  let v150 : BitVec 32 := Scalar.muli arg10 c16_i32_63
  let c7_i32 : BitVec 32 := 7#32
  let v151 : BitVec 32 := Scalar.addi v150 c7_i32
  let v357 : BitVec 32 := Scalar.muli c2_i32_176 v151
  let c0_i32_177 : BitVec 32 := 0#32
  let v358 : BitVec 32 := Scalar.addi v357 c0_i32_177
  let v363 : BitVec 32 := Scalar.addi c128_i32_180 v358
  let c136_i32_181 : BitVec 32 := 136#32
  let v364 : BitVec 32 := Scalar.muli v363 c136_i32_181
  v364
def k0_mult40 (k0_t3 : Fin k0_t3_loop.trips) : BitVec 32 :=
  let c2_i32_183 : BitVec 32 := 2#32
  let c0_i32_49 : BitVec 32 := 0#32
  let c1_i32_51 : BitVec 32 := 1#32
  let arg10 : BitVec 32 := Scf.iv c0_i32_49 c1_i32_51 k0_t3
  let c16_i32_63 : BitVec 32 := 16#32
  let v150 : BitVec 32 := Scalar.muli arg10 c16_i32_63
  let c7_i32 : BitVec 32 := 7#32
  let v151 : BitVec 32 := Scalar.addi v150 c7_i32
  let v369 : BitVec 32 := Scalar.muli c2_i32_183 v151
  let c1_i32_184 : BitVec 32 := 1#32
  let v370 : BitVec 32 := Scalar.addi v369 c1_i32_184
  let c136_i32_185 : BitVec 32 := 136#32
  let v371 : BitVec 32 := Scalar.muli v370 c136_i32_185
  v371
def k0_mult41 (k0_t3 : Fin k0_t3_loop.trips) : BitVec 32 :=
  let c128_i32_187 : BitVec 32 := 128#32
  let c2_i32_183 : BitVec 32 := 2#32
  let c0_i32_49 : BitVec 32 := 0#32
  let c1_i32_51 : BitVec 32 := 1#32
  let arg10 : BitVec 32 := Scf.iv c0_i32_49 c1_i32_51 k0_t3
  let c16_i32_63 : BitVec 32 := 16#32
  let v150 : BitVec 32 := Scalar.muli arg10 c16_i32_63
  let c7_i32 : BitVec 32 := 7#32
  let v151 : BitVec 32 := Scalar.addi v150 c7_i32
  let v369 : BitVec 32 := Scalar.muli c2_i32_183 v151
  let c1_i32_184 : BitVec 32 := 1#32
  let v370 : BitVec 32 := Scalar.addi v369 c1_i32_184
  let v375 : BitVec 32 := Scalar.addi c128_i32_187 v370
  let c136_i32_188 : BitVec 32 := 136#32
  let v376 : BitVec 32 := Scalar.muli v375 c136_i32_188
  v376
def k0_mult42 (k0_t3 : Fin k0_t3_loop.trips) : BitVec 32 :=
  let c2_i32_191 : BitVec 32 := 2#32
  let c0_i32_49 : BitVec 32 := 0#32
  let c1_i32_51 : BitVec 32 := 1#32
  let arg10 : BitVec 32 := Scf.iv c0_i32_49 c1_i32_51 k0_t3
  let c16_i32_64 : BitVec 32 := 16#32
  let v152 : BitVec 32 := Scalar.muli arg10 c16_i32_64
  let c8_i32 : BitVec 32 := 8#32
  let v153 : BitVec 32 := Scalar.addi v152 c8_i32
  let v384 : BitVec 32 := Scalar.muli c2_i32_191 v153
  let c0_i32_192 : BitVec 32 := 0#32
  let v385 : BitVec 32 := Scalar.addi v384 c0_i32_192
  let c136_i32_193 : BitVec 32 := 136#32
  let v386 : BitVec 32 := Scalar.muli v385 c136_i32_193
  v386
def k0_mult43 (k0_t3 : Fin k0_t3_loop.trips) : BitVec 32 :=
  let c128_i32_195 : BitVec 32 := 128#32
  let c2_i32_191 : BitVec 32 := 2#32
  let c0_i32_49 : BitVec 32 := 0#32
  let c1_i32_51 : BitVec 32 := 1#32
  let arg10 : BitVec 32 := Scf.iv c0_i32_49 c1_i32_51 k0_t3
  let c16_i32_64 : BitVec 32 := 16#32
  let v152 : BitVec 32 := Scalar.muli arg10 c16_i32_64
  let c8_i32 : BitVec 32 := 8#32
  let v153 : BitVec 32 := Scalar.addi v152 c8_i32
  let v384 : BitVec 32 := Scalar.muli c2_i32_191 v153
  let c0_i32_192 : BitVec 32 := 0#32
  let v385 : BitVec 32 := Scalar.addi v384 c0_i32_192
  let v390 : BitVec 32 := Scalar.addi c128_i32_195 v385
  let c136_i32_196 : BitVec 32 := 136#32
  let v391 : BitVec 32 := Scalar.muli v390 c136_i32_196
  v391
def k0_mult44 (k0_t3 : Fin k0_t3_loop.trips) : BitVec 32 :=
  let c2_i32_198 : BitVec 32 := 2#32
  let c0_i32_49 : BitVec 32 := 0#32
  let c1_i32_51 : BitVec 32 := 1#32
  let arg10 : BitVec 32 := Scf.iv c0_i32_49 c1_i32_51 k0_t3
  let c16_i32_64 : BitVec 32 := 16#32
  let v152 : BitVec 32 := Scalar.muli arg10 c16_i32_64
  let c8_i32 : BitVec 32 := 8#32
  let v153 : BitVec 32 := Scalar.addi v152 c8_i32
  let v396 : BitVec 32 := Scalar.muli c2_i32_198 v153
  let c1_i32_199 : BitVec 32 := 1#32
  let v397 : BitVec 32 := Scalar.addi v396 c1_i32_199
  let c136_i32_200 : BitVec 32 := 136#32
  let v398 : BitVec 32 := Scalar.muli v397 c136_i32_200
  v398
def k0_mult45 (k0_t3 : Fin k0_t3_loop.trips) : BitVec 32 :=
  let c128_i32_202 : BitVec 32 := 128#32
  let c2_i32_198 : BitVec 32 := 2#32
  let c0_i32_49 : BitVec 32 := 0#32
  let c1_i32_51 : BitVec 32 := 1#32
  let arg10 : BitVec 32 := Scf.iv c0_i32_49 c1_i32_51 k0_t3
  let c16_i32_64 : BitVec 32 := 16#32
  let v152 : BitVec 32 := Scalar.muli arg10 c16_i32_64
  let c8_i32 : BitVec 32 := 8#32
  let v153 : BitVec 32 := Scalar.addi v152 c8_i32
  let v396 : BitVec 32 := Scalar.muli c2_i32_198 v153
  let c1_i32_199 : BitVec 32 := 1#32
  let v397 : BitVec 32 := Scalar.addi v396 c1_i32_199
  let v402 : BitVec 32 := Scalar.addi c128_i32_202 v397
  let c136_i32_203 : BitVec 32 := 136#32
  let v403 : BitVec 32 := Scalar.muli v402 c136_i32_203
  v403
def k0_mult46 (k0_t3 : Fin k0_t3_loop.trips) : BitVec 32 :=
  let c2_i32_206 : BitVec 32 := 2#32
  let c0_i32_49 : BitVec 32 := 0#32
  let c1_i32_51 : BitVec 32 := 1#32
  let arg10 : BitVec 32 := Scf.iv c0_i32_49 c1_i32_51 k0_t3
  let c16_i32_65 : BitVec 32 := 16#32
  let v154 : BitVec 32 := Scalar.muli arg10 c16_i32_65
  let c9_i32 : BitVec 32 := 9#32
  let v155 : BitVec 32 := Scalar.addi v154 c9_i32
  let v411 : BitVec 32 := Scalar.muli c2_i32_206 v155
  let c0_i32_207 : BitVec 32 := 0#32
  let v412 : BitVec 32 := Scalar.addi v411 c0_i32_207
  let c136_i32_208 : BitVec 32 := 136#32
  let v413 : BitVec 32 := Scalar.muli v412 c136_i32_208
  v413
def k0_mult47 (k0_t3 : Fin k0_t3_loop.trips) : BitVec 32 :=
  let c128_i32_210 : BitVec 32 := 128#32
  let c2_i32_206 : BitVec 32 := 2#32
  let c0_i32_49 : BitVec 32 := 0#32
  let c1_i32_51 : BitVec 32 := 1#32
  let arg10 : BitVec 32 := Scf.iv c0_i32_49 c1_i32_51 k0_t3
  let c16_i32_65 : BitVec 32 := 16#32
  let v154 : BitVec 32 := Scalar.muli arg10 c16_i32_65
  let c9_i32 : BitVec 32 := 9#32
  let v155 : BitVec 32 := Scalar.addi v154 c9_i32
  let v411 : BitVec 32 := Scalar.muli c2_i32_206 v155
  let c0_i32_207 : BitVec 32 := 0#32
  let v412 : BitVec 32 := Scalar.addi v411 c0_i32_207
  let v417 : BitVec 32 := Scalar.addi c128_i32_210 v412
  let c136_i32_211 : BitVec 32 := 136#32
  let v418 : BitVec 32 := Scalar.muli v417 c136_i32_211
  v418
def k0_mult48 (k0_t3 : Fin k0_t3_loop.trips) : BitVec 32 :=
  let c2_i32_213 : BitVec 32 := 2#32
  let c0_i32_49 : BitVec 32 := 0#32
  let c1_i32_51 : BitVec 32 := 1#32
  let arg10 : BitVec 32 := Scf.iv c0_i32_49 c1_i32_51 k0_t3
  let c16_i32_65 : BitVec 32 := 16#32
  let v154 : BitVec 32 := Scalar.muli arg10 c16_i32_65
  let c9_i32 : BitVec 32 := 9#32
  let v155 : BitVec 32 := Scalar.addi v154 c9_i32
  let v423 : BitVec 32 := Scalar.muli c2_i32_213 v155
  let c1_i32_214 : BitVec 32 := 1#32
  let v424 : BitVec 32 := Scalar.addi v423 c1_i32_214
  let c136_i32_215 : BitVec 32 := 136#32
  let v425 : BitVec 32 := Scalar.muli v424 c136_i32_215
  v425
def k0_mult49 (k0_t3 : Fin k0_t3_loop.trips) : BitVec 32 :=
  let c128_i32_217 : BitVec 32 := 128#32
  let c2_i32_213 : BitVec 32 := 2#32
  let c0_i32_49 : BitVec 32 := 0#32
  let c1_i32_51 : BitVec 32 := 1#32
  let arg10 : BitVec 32 := Scf.iv c0_i32_49 c1_i32_51 k0_t3
  let c16_i32_65 : BitVec 32 := 16#32
  let v154 : BitVec 32 := Scalar.muli arg10 c16_i32_65
  let c9_i32 : BitVec 32 := 9#32
  let v155 : BitVec 32 := Scalar.addi v154 c9_i32
  let v423 : BitVec 32 := Scalar.muli c2_i32_213 v155
  let c1_i32_214 : BitVec 32 := 1#32
  let v424 : BitVec 32 := Scalar.addi v423 c1_i32_214
  let v429 : BitVec 32 := Scalar.addi c128_i32_217 v424
  let c136_i32_218 : BitVec 32 := 136#32
  let v430 : BitVec 32 := Scalar.muli v429 c136_i32_218
  v430
def k0_mult50 (k0_t3 : Fin k0_t3_loop.trips) : BitVec 32 :=
  let c2_i32_221 : BitVec 32 := 2#32
  let c0_i32_49 : BitVec 32 := 0#32
  let c1_i32_51 : BitVec 32 := 1#32
  let arg10 : BitVec 32 := Scf.iv c0_i32_49 c1_i32_51 k0_t3
  let c16_i32_66 : BitVec 32 := 16#32
  let v156 : BitVec 32 := Scalar.muli arg10 c16_i32_66
  let c10_i32 : BitVec 32 := 10#32
  let v157 : BitVec 32 := Scalar.addi v156 c10_i32
  let v438 : BitVec 32 := Scalar.muli c2_i32_221 v157
  let c0_i32_222 : BitVec 32 := 0#32
  let v439 : BitVec 32 := Scalar.addi v438 c0_i32_222
  let c136_i32_223 : BitVec 32 := 136#32
  let v440 : BitVec 32 := Scalar.muli v439 c136_i32_223
  v440
def k0_mult51 (k0_t3 : Fin k0_t3_loop.trips) : BitVec 32 :=
  let c128_i32_225 : BitVec 32 := 128#32
  let c2_i32_221 : BitVec 32 := 2#32
  let c0_i32_49 : BitVec 32 := 0#32
  let c1_i32_51 : BitVec 32 := 1#32
  let arg10 : BitVec 32 := Scf.iv c0_i32_49 c1_i32_51 k0_t3
  let c16_i32_66 : BitVec 32 := 16#32
  let v156 : BitVec 32 := Scalar.muli arg10 c16_i32_66
  let c10_i32 : BitVec 32 := 10#32
  let v157 : BitVec 32 := Scalar.addi v156 c10_i32
  let v438 : BitVec 32 := Scalar.muli c2_i32_221 v157
  let c0_i32_222 : BitVec 32 := 0#32
  let v439 : BitVec 32 := Scalar.addi v438 c0_i32_222
  let v444 : BitVec 32 := Scalar.addi c128_i32_225 v439
  let c136_i32_226 : BitVec 32 := 136#32
  let v445 : BitVec 32 := Scalar.muli v444 c136_i32_226
  v445
def k0_mult52 (k0_t3 : Fin k0_t3_loop.trips) : BitVec 32 :=
  let c2_i32_228 : BitVec 32 := 2#32
  let c0_i32_49 : BitVec 32 := 0#32
  let c1_i32_51 : BitVec 32 := 1#32
  let arg10 : BitVec 32 := Scf.iv c0_i32_49 c1_i32_51 k0_t3
  let c16_i32_66 : BitVec 32 := 16#32
  let v156 : BitVec 32 := Scalar.muli arg10 c16_i32_66
  let c10_i32 : BitVec 32 := 10#32
  let v157 : BitVec 32 := Scalar.addi v156 c10_i32
  let v450 : BitVec 32 := Scalar.muli c2_i32_228 v157
  let c1_i32_229 : BitVec 32 := 1#32
  let v451 : BitVec 32 := Scalar.addi v450 c1_i32_229
  let c136_i32_230 : BitVec 32 := 136#32
  let v452 : BitVec 32 := Scalar.muli v451 c136_i32_230
  v452
def k0_mult53 (k0_t3 : Fin k0_t3_loop.trips) : BitVec 32 :=
  let c128_i32_232 : BitVec 32 := 128#32
  let c2_i32_228 : BitVec 32 := 2#32
  let c0_i32_49 : BitVec 32 := 0#32
  let c1_i32_51 : BitVec 32 := 1#32
  let arg10 : BitVec 32 := Scf.iv c0_i32_49 c1_i32_51 k0_t3
  let c16_i32_66 : BitVec 32 := 16#32
  let v156 : BitVec 32 := Scalar.muli arg10 c16_i32_66
  let c10_i32 : BitVec 32 := 10#32
  let v157 : BitVec 32 := Scalar.addi v156 c10_i32
  let v450 : BitVec 32 := Scalar.muli c2_i32_228 v157
  let c1_i32_229 : BitVec 32 := 1#32
  let v451 : BitVec 32 := Scalar.addi v450 c1_i32_229
  let v456 : BitVec 32 := Scalar.addi c128_i32_232 v451
  let c136_i32_233 : BitVec 32 := 136#32
  let v457 : BitVec 32 := Scalar.muli v456 c136_i32_233
  v457
def k0_mult54 (k0_t3 : Fin k0_t3_loop.trips) : BitVec 32 :=
  let c2_i32_236 : BitVec 32 := 2#32
  let c0_i32_49 : BitVec 32 := 0#32
  let c1_i32_51 : BitVec 32 := 1#32
  let arg10 : BitVec 32 := Scf.iv c0_i32_49 c1_i32_51 k0_t3
  let c16_i32_67 : BitVec 32 := 16#32
  let v158 : BitVec 32 := Scalar.muli arg10 c16_i32_67
  let c11_i32 : BitVec 32 := 11#32
  let v159 : BitVec 32 := Scalar.addi v158 c11_i32
  let v465 : BitVec 32 := Scalar.muli c2_i32_236 v159
  let c0_i32_237 : BitVec 32 := 0#32
  let v466 : BitVec 32 := Scalar.addi v465 c0_i32_237
  let c136_i32_238 : BitVec 32 := 136#32
  let v467 : BitVec 32 := Scalar.muli v466 c136_i32_238
  v467
def k0_mult55 (k0_t3 : Fin k0_t3_loop.trips) : BitVec 32 :=
  let c128_i32_240 : BitVec 32 := 128#32
  let c2_i32_236 : BitVec 32 := 2#32
  let c0_i32_49 : BitVec 32 := 0#32
  let c1_i32_51 : BitVec 32 := 1#32
  let arg10 : BitVec 32 := Scf.iv c0_i32_49 c1_i32_51 k0_t3
  let c16_i32_67 : BitVec 32 := 16#32
  let v158 : BitVec 32 := Scalar.muli arg10 c16_i32_67
  let c11_i32 : BitVec 32 := 11#32
  let v159 : BitVec 32 := Scalar.addi v158 c11_i32
  let v465 : BitVec 32 := Scalar.muli c2_i32_236 v159
  let c0_i32_237 : BitVec 32 := 0#32
  let v466 : BitVec 32 := Scalar.addi v465 c0_i32_237
  let v471 : BitVec 32 := Scalar.addi c128_i32_240 v466
  let c136_i32_241 : BitVec 32 := 136#32
  let v472 : BitVec 32 := Scalar.muli v471 c136_i32_241
  v472
def k0_mult56 (k0_t3 : Fin k0_t3_loop.trips) : BitVec 32 :=
  let c2_i32_243 : BitVec 32 := 2#32
  let c0_i32_49 : BitVec 32 := 0#32
  let c1_i32_51 : BitVec 32 := 1#32
  let arg10 : BitVec 32 := Scf.iv c0_i32_49 c1_i32_51 k0_t3
  let c16_i32_67 : BitVec 32 := 16#32
  let v158 : BitVec 32 := Scalar.muli arg10 c16_i32_67
  let c11_i32 : BitVec 32 := 11#32
  let v159 : BitVec 32 := Scalar.addi v158 c11_i32
  let v477 : BitVec 32 := Scalar.muli c2_i32_243 v159
  let c1_i32_244 : BitVec 32 := 1#32
  let v478 : BitVec 32 := Scalar.addi v477 c1_i32_244
  let c136_i32_245 : BitVec 32 := 136#32
  let v479 : BitVec 32 := Scalar.muli v478 c136_i32_245
  v479
def k0_mult57 (k0_t3 : Fin k0_t3_loop.trips) : BitVec 32 :=
  let c128_i32_247 : BitVec 32 := 128#32
  let c2_i32_243 : BitVec 32 := 2#32
  let c0_i32_49 : BitVec 32 := 0#32
  let c1_i32_51 : BitVec 32 := 1#32
  let arg10 : BitVec 32 := Scf.iv c0_i32_49 c1_i32_51 k0_t3
  let c16_i32_67 : BitVec 32 := 16#32
  let v158 : BitVec 32 := Scalar.muli arg10 c16_i32_67
  let c11_i32 : BitVec 32 := 11#32
  let v159 : BitVec 32 := Scalar.addi v158 c11_i32
  let v477 : BitVec 32 := Scalar.muli c2_i32_243 v159
  let c1_i32_244 : BitVec 32 := 1#32
  let v478 : BitVec 32 := Scalar.addi v477 c1_i32_244
  let v483 : BitVec 32 := Scalar.addi c128_i32_247 v478
  let c136_i32_248 : BitVec 32 := 136#32
  let v484 : BitVec 32 := Scalar.muli v483 c136_i32_248
  v484
def k0_mult58 (k0_t3 : Fin k0_t3_loop.trips) : BitVec 32 :=
  let c2_i32_251 : BitVec 32 := 2#32
  let c0_i32_49 : BitVec 32 := 0#32
  let c1_i32_51 : BitVec 32 := 1#32
  let arg10 : BitVec 32 := Scf.iv c0_i32_49 c1_i32_51 k0_t3
  let c16_i32_68 : BitVec 32 := 16#32
  let v160 : BitVec 32 := Scalar.muli arg10 c16_i32_68
  let c12_i32 : BitVec 32 := 12#32
  let v161 : BitVec 32 := Scalar.addi v160 c12_i32
  let v492 : BitVec 32 := Scalar.muli c2_i32_251 v161
  let c0_i32_252 : BitVec 32 := 0#32
  let v493 : BitVec 32 := Scalar.addi v492 c0_i32_252
  let c136_i32_253 : BitVec 32 := 136#32
  let v494 : BitVec 32 := Scalar.muli v493 c136_i32_253
  v494
def k0_mult59 (k0_t3 : Fin k0_t3_loop.trips) : BitVec 32 :=
  let c128_i32_255 : BitVec 32 := 128#32
  let c2_i32_251 : BitVec 32 := 2#32
  let c0_i32_49 : BitVec 32 := 0#32
  let c1_i32_51 : BitVec 32 := 1#32
  let arg10 : BitVec 32 := Scf.iv c0_i32_49 c1_i32_51 k0_t3
  let c16_i32_68 : BitVec 32 := 16#32
  let v160 : BitVec 32 := Scalar.muli arg10 c16_i32_68
  let c12_i32 : BitVec 32 := 12#32
  let v161 : BitVec 32 := Scalar.addi v160 c12_i32
  let v492 : BitVec 32 := Scalar.muli c2_i32_251 v161
  let c0_i32_252 : BitVec 32 := 0#32
  let v493 : BitVec 32 := Scalar.addi v492 c0_i32_252
  let v498 : BitVec 32 := Scalar.addi c128_i32_255 v493
  let c136_i32_256 : BitVec 32 := 136#32
  let v499 : BitVec 32 := Scalar.muli v498 c136_i32_256
  v499
def k0_mult60 (k0_t3 : Fin k0_t3_loop.trips) : BitVec 32 :=
  let c2_i32_258 : BitVec 32 := 2#32
  let c0_i32_49 : BitVec 32 := 0#32
  let c1_i32_51 : BitVec 32 := 1#32
  let arg10 : BitVec 32 := Scf.iv c0_i32_49 c1_i32_51 k0_t3
  let c16_i32_68 : BitVec 32 := 16#32
  let v160 : BitVec 32 := Scalar.muli arg10 c16_i32_68
  let c12_i32 : BitVec 32 := 12#32
  let v161 : BitVec 32 := Scalar.addi v160 c12_i32
  let v504 : BitVec 32 := Scalar.muli c2_i32_258 v161
  let c1_i32_259 : BitVec 32 := 1#32
  let v505 : BitVec 32 := Scalar.addi v504 c1_i32_259
  let c136_i32_260 : BitVec 32 := 136#32
  let v506 : BitVec 32 := Scalar.muli v505 c136_i32_260
  v506
def k0_mult61 (k0_t3 : Fin k0_t3_loop.trips) : BitVec 32 :=
  let c128_i32_262 : BitVec 32 := 128#32
  let c2_i32_258 : BitVec 32 := 2#32
  let c0_i32_49 : BitVec 32 := 0#32
  let c1_i32_51 : BitVec 32 := 1#32
  let arg10 : BitVec 32 := Scf.iv c0_i32_49 c1_i32_51 k0_t3
  let c16_i32_68 : BitVec 32 := 16#32
  let v160 : BitVec 32 := Scalar.muli arg10 c16_i32_68
  let c12_i32 : BitVec 32 := 12#32
  let v161 : BitVec 32 := Scalar.addi v160 c12_i32
  let v504 : BitVec 32 := Scalar.muli c2_i32_258 v161
  let c1_i32_259 : BitVec 32 := 1#32
  let v505 : BitVec 32 := Scalar.addi v504 c1_i32_259
  let v510 : BitVec 32 := Scalar.addi c128_i32_262 v505
  let c136_i32_263 : BitVec 32 := 136#32
  let v511 : BitVec 32 := Scalar.muli v510 c136_i32_263
  v511
def k0_mult62 (k0_t3 : Fin k0_t3_loop.trips) : BitVec 32 :=
  let c2_i32_266 : BitVec 32 := 2#32
  let c0_i32_49 : BitVec 32 := 0#32
  let c1_i32_51 : BitVec 32 := 1#32
  let arg10 : BitVec 32 := Scf.iv c0_i32_49 c1_i32_51 k0_t3
  let c16_i32_69 : BitVec 32 := 16#32
  let v162 : BitVec 32 := Scalar.muli arg10 c16_i32_69
  let c13_i32 : BitVec 32 := 13#32
  let v163 : BitVec 32 := Scalar.addi v162 c13_i32
  let v519 : BitVec 32 := Scalar.muli c2_i32_266 v163
  let c0_i32_267 : BitVec 32 := 0#32
  let v520 : BitVec 32 := Scalar.addi v519 c0_i32_267
  let c136_i32_268 : BitVec 32 := 136#32
  let v521 : BitVec 32 := Scalar.muli v520 c136_i32_268
  v521
def k0_mult63 (k0_t3 : Fin k0_t3_loop.trips) : BitVec 32 :=
  let c128_i32_270 : BitVec 32 := 128#32
  let c2_i32_266 : BitVec 32 := 2#32
  let c0_i32_49 : BitVec 32 := 0#32
  let c1_i32_51 : BitVec 32 := 1#32
  let arg10 : BitVec 32 := Scf.iv c0_i32_49 c1_i32_51 k0_t3
  let c16_i32_69 : BitVec 32 := 16#32
  let v162 : BitVec 32 := Scalar.muli arg10 c16_i32_69
  let c13_i32 : BitVec 32 := 13#32
  let v163 : BitVec 32 := Scalar.addi v162 c13_i32
  let v519 : BitVec 32 := Scalar.muli c2_i32_266 v163
  let c0_i32_267 : BitVec 32 := 0#32
  let v520 : BitVec 32 := Scalar.addi v519 c0_i32_267
  let v525 : BitVec 32 := Scalar.addi c128_i32_270 v520
  let c136_i32_271 : BitVec 32 := 136#32
  let v526 : BitVec 32 := Scalar.muli v525 c136_i32_271
  v526
def k0_mult64 (k0_t3 : Fin k0_t3_loop.trips) : BitVec 32 :=
  let c2_i32_273 : BitVec 32 := 2#32
  let c0_i32_49 : BitVec 32 := 0#32
  let c1_i32_51 : BitVec 32 := 1#32
  let arg10 : BitVec 32 := Scf.iv c0_i32_49 c1_i32_51 k0_t3
  let c16_i32_69 : BitVec 32 := 16#32
  let v162 : BitVec 32 := Scalar.muli arg10 c16_i32_69
  let c13_i32 : BitVec 32 := 13#32
  let v163 : BitVec 32 := Scalar.addi v162 c13_i32
  let v531 : BitVec 32 := Scalar.muli c2_i32_273 v163
  let c1_i32_274 : BitVec 32 := 1#32
  let v532 : BitVec 32 := Scalar.addi v531 c1_i32_274
  let c136_i32_275 : BitVec 32 := 136#32
  let v533 : BitVec 32 := Scalar.muli v532 c136_i32_275
  v533
def k0_mult65 (k0_t3 : Fin k0_t3_loop.trips) : BitVec 32 :=
  let c128_i32_277 : BitVec 32 := 128#32
  let c2_i32_273 : BitVec 32 := 2#32
  let c0_i32_49 : BitVec 32 := 0#32
  let c1_i32_51 : BitVec 32 := 1#32
  let arg10 : BitVec 32 := Scf.iv c0_i32_49 c1_i32_51 k0_t3
  let c16_i32_69 : BitVec 32 := 16#32
  let v162 : BitVec 32 := Scalar.muli arg10 c16_i32_69
  let c13_i32 : BitVec 32 := 13#32
  let v163 : BitVec 32 := Scalar.addi v162 c13_i32
  let v531 : BitVec 32 := Scalar.muli c2_i32_273 v163
  let c1_i32_274 : BitVec 32 := 1#32
  let v532 : BitVec 32 := Scalar.addi v531 c1_i32_274
  let v537 : BitVec 32 := Scalar.addi c128_i32_277 v532
  let c136_i32_278 : BitVec 32 := 136#32
  let v538 : BitVec 32 := Scalar.muli v537 c136_i32_278
  v538
def k0_mult66 (k0_t3 : Fin k0_t3_loop.trips) : BitVec 32 :=
  let c2_i32_281 : BitVec 32 := 2#32
  let c0_i32_49 : BitVec 32 := 0#32
  let c1_i32_51 : BitVec 32 := 1#32
  let arg10 : BitVec 32 := Scf.iv c0_i32_49 c1_i32_51 k0_t3
  let c16_i32_70 : BitVec 32 := 16#32
  let v164 : BitVec 32 := Scalar.muli arg10 c16_i32_70
  let c14_i32 : BitVec 32 := 14#32
  let v165 : BitVec 32 := Scalar.addi v164 c14_i32
  let v546 : BitVec 32 := Scalar.muli c2_i32_281 v165
  let c0_i32_282 : BitVec 32 := 0#32
  let v547 : BitVec 32 := Scalar.addi v546 c0_i32_282
  let c136_i32_283 : BitVec 32 := 136#32
  let v548 : BitVec 32 := Scalar.muli v547 c136_i32_283
  v548
def k0_mult67 (k0_t3 : Fin k0_t3_loop.trips) : BitVec 32 :=
  let c128_i32_285 : BitVec 32 := 128#32
  let c2_i32_281 : BitVec 32 := 2#32
  let c0_i32_49 : BitVec 32 := 0#32
  let c1_i32_51 : BitVec 32 := 1#32
  let arg10 : BitVec 32 := Scf.iv c0_i32_49 c1_i32_51 k0_t3
  let c16_i32_70 : BitVec 32 := 16#32
  let v164 : BitVec 32 := Scalar.muli arg10 c16_i32_70
  let c14_i32 : BitVec 32 := 14#32
  let v165 : BitVec 32 := Scalar.addi v164 c14_i32
  let v546 : BitVec 32 := Scalar.muli c2_i32_281 v165
  let c0_i32_282 : BitVec 32 := 0#32
  let v547 : BitVec 32 := Scalar.addi v546 c0_i32_282
  let v552 : BitVec 32 := Scalar.addi c128_i32_285 v547
  let c136_i32_286 : BitVec 32 := 136#32
  let v553 : BitVec 32 := Scalar.muli v552 c136_i32_286
  v553
def k0_mult68 (k0_t3 : Fin k0_t3_loop.trips) : BitVec 32 :=
  let c2_i32_288 : BitVec 32 := 2#32
  let c0_i32_49 : BitVec 32 := 0#32
  let c1_i32_51 : BitVec 32 := 1#32
  let arg10 : BitVec 32 := Scf.iv c0_i32_49 c1_i32_51 k0_t3
  let c16_i32_70 : BitVec 32 := 16#32
  let v164 : BitVec 32 := Scalar.muli arg10 c16_i32_70
  let c14_i32 : BitVec 32 := 14#32
  let v165 : BitVec 32 := Scalar.addi v164 c14_i32
  let v558 : BitVec 32 := Scalar.muli c2_i32_288 v165
  let c1_i32_289 : BitVec 32 := 1#32
  let v559 : BitVec 32 := Scalar.addi v558 c1_i32_289
  let c136_i32_290 : BitVec 32 := 136#32
  let v560 : BitVec 32 := Scalar.muli v559 c136_i32_290
  v560
def k0_mult69 (k0_t3 : Fin k0_t3_loop.trips) : BitVec 32 :=
  let c128_i32_292 : BitVec 32 := 128#32
  let c2_i32_288 : BitVec 32 := 2#32
  let c0_i32_49 : BitVec 32 := 0#32
  let c1_i32_51 : BitVec 32 := 1#32
  let arg10 : BitVec 32 := Scf.iv c0_i32_49 c1_i32_51 k0_t3
  let c16_i32_70 : BitVec 32 := 16#32
  let v164 : BitVec 32 := Scalar.muli arg10 c16_i32_70
  let c14_i32 : BitVec 32 := 14#32
  let v165 : BitVec 32 := Scalar.addi v164 c14_i32
  let v558 : BitVec 32 := Scalar.muli c2_i32_288 v165
  let c1_i32_289 : BitVec 32 := 1#32
  let v559 : BitVec 32 := Scalar.addi v558 c1_i32_289
  let v564 : BitVec 32 := Scalar.addi c128_i32_292 v559
  let c136_i32_293 : BitVec 32 := 136#32
  let v565 : BitVec 32 := Scalar.muli v564 c136_i32_293
  v565
def k0_mult70 (k0_t3 : Fin k0_t3_loop.trips) : BitVec 32 :=
  let c2_i32_296 : BitVec 32 := 2#32
  let c0_i32_49 : BitVec 32 := 0#32
  let c1_i32_51 : BitVec 32 := 1#32
  let arg10 : BitVec 32 := Scf.iv c0_i32_49 c1_i32_51 k0_t3
  let c16_i32_71 : BitVec 32 := 16#32
  let v166 : BitVec 32 := Scalar.muli arg10 c16_i32_71
  let c15_i32 : BitVec 32 := 15#32
  let v167 : BitVec 32 := Scalar.addi v166 c15_i32
  let v573 : BitVec 32 := Scalar.muli c2_i32_296 v167
  let c0_i32_297 : BitVec 32 := 0#32
  let v574 : BitVec 32 := Scalar.addi v573 c0_i32_297
  let c136_i32_298 : BitVec 32 := 136#32
  let v575 : BitVec 32 := Scalar.muli v574 c136_i32_298
  v575
def k0_mult71 (k0_t3 : Fin k0_t3_loop.trips) : BitVec 32 :=
  let c128_i32_300 : BitVec 32 := 128#32
  let c2_i32_296 : BitVec 32 := 2#32
  let c0_i32_49 : BitVec 32 := 0#32
  let c1_i32_51 : BitVec 32 := 1#32
  let arg10 : BitVec 32 := Scf.iv c0_i32_49 c1_i32_51 k0_t3
  let c16_i32_71 : BitVec 32 := 16#32
  let v166 : BitVec 32 := Scalar.muli arg10 c16_i32_71
  let c15_i32 : BitVec 32 := 15#32
  let v167 : BitVec 32 := Scalar.addi v166 c15_i32
  let v573 : BitVec 32 := Scalar.muli c2_i32_296 v167
  let c0_i32_297 : BitVec 32 := 0#32
  let v574 : BitVec 32 := Scalar.addi v573 c0_i32_297
  let v579 : BitVec 32 := Scalar.addi c128_i32_300 v574
  let c136_i32_301 : BitVec 32 := 136#32
  let v580 : BitVec 32 := Scalar.muli v579 c136_i32_301
  v580
def k0_mult72 (k0_t3 : Fin k0_t3_loop.trips) : BitVec 32 :=
  let c2_i32_303 : BitVec 32 := 2#32
  let c0_i32_49 : BitVec 32 := 0#32
  let c1_i32_51 : BitVec 32 := 1#32
  let arg10 : BitVec 32 := Scf.iv c0_i32_49 c1_i32_51 k0_t3
  let c16_i32_71 : BitVec 32 := 16#32
  let v166 : BitVec 32 := Scalar.muli arg10 c16_i32_71
  let c15_i32 : BitVec 32 := 15#32
  let v167 : BitVec 32 := Scalar.addi v166 c15_i32
  let v585 : BitVec 32 := Scalar.muli c2_i32_303 v167
  let c1_i32_304 : BitVec 32 := 1#32
  let v586 : BitVec 32 := Scalar.addi v585 c1_i32_304
  let c136_i32_305 : BitVec 32 := 136#32
  let v587 : BitVec 32 := Scalar.muli v586 c136_i32_305
  v587
def k0_mult73 (k0_t3 : Fin k0_t3_loop.trips) : BitVec 32 :=
  let c128_i32_307 : BitVec 32 := 128#32
  let c2_i32_303 : BitVec 32 := 2#32
  let c0_i32_49 : BitVec 32 := 0#32
  let c1_i32_51 : BitVec 32 := 1#32
  let arg10 : BitVec 32 := Scf.iv c0_i32_49 c1_i32_51 k0_t3
  let c16_i32_71 : BitVec 32 := 16#32
  let v166 : BitVec 32 := Scalar.muli arg10 c16_i32_71
  let c15_i32 : BitVec 32 := 15#32
  let v167 : BitVec 32 := Scalar.addi v166 c15_i32
  let v585 : BitVec 32 := Scalar.muli c2_i32_303 v167
  let c1_i32_304 : BitVec 32 := 1#32
  let v586 : BitVec 32 := Scalar.addi v585 c1_i32_304
  let v591 : BitVec 32 := Scalar.addi c128_i32_307 v586
  let c136_i32_308 : BitVec 32 := 136#32
  let v592 : BitVec 32 := Scalar.muli v591 c136_i32_308
  v592
def k0_mult74 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let c0_i32_53 : BitVec 32 := 0#32
  let v137 : BitVec 32 := Scalar.addi v136 c0_i32_53
  let c128_i32_314 : BitVec 32 := 128#32
  let v617 : BitVec 32 := Scalar.muli v137 c128_i32_314
  v617
def k0_off13 (k0_t3 : Fin k0_t3_loop.trips) (c0_i32_53 : BitVec 32) : Fin 2 → Nat :=
  let c0_i32_49 : BitVec 32 := 0#32
  let c1_i32_51 : BitVec 32 := 1#32
  let arg10 : BitVec 32 := Scf.iv c0_i32_49 c1_i32_51 k0_t3
  let c16_i32 : BitVec 32 := 16#32
  let v136 : BitVec 32 := Scalar.muli arg10 c16_i32
  let v137 : BitVec 32 := Scalar.addi v136 c0_i32_53
  let c128_i32_314 : BitVec 32 := 128#32
  let v617 : BitVec 32 := Scalar.muli v137 c128_i32_314
  let v618 : BitVec 32 := v617
  let v619 : Index := Scalar.indexCast v618
  let c0_315 : Index := 0#32
  ![v619.toNat, 0]
def k0_mult75 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_54 : BitVec 32 := 16#32
  let v138 : BitVec 32 := Scalar.muli arg10 c16_i32_54
  let c1_i32_55 : BitVec 32 := 1#32
  let v139 : BitVec 32 := Scalar.addi v138 c1_i32_55
  let c128_i32_319 : BitVec 32 := 128#32
  let v638 : BitVec 32 := Scalar.muli v139 c128_i32_319
  v638
def k0_mult76 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_56 : BitVec 32 := 16#32
  let v140 : BitVec 32 := Scalar.muli arg10 c16_i32_56
  let c2_i32_57 : BitVec 32 := 2#32
  let v141 : BitVec 32 := Scalar.addi v140 c2_i32_57
  let c128_i32_324 : BitVec 32 := 128#32
  let v659 : BitVec 32 := Scalar.muli v141 c128_i32_324
  v659
def k0_mult77 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_58 : BitVec 32 := 16#32
  let v142 : BitVec 32 := Scalar.muli arg10 c16_i32_58
  let c3_i32 : BitVec 32 := 3#32
  let v143 : BitVec 32 := Scalar.addi v142 c3_i32
  let c128_i32_329 : BitVec 32 := 128#32
  let v680 : BitVec 32 := Scalar.muli v143 c128_i32_329
  v680
def k0_mult78 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_59 : BitVec 32 := 16#32
  let v144 : BitVec 32 := Scalar.muli arg10 c16_i32_59
  let c4_i32_60 : BitVec 32 := 4#32
  let v145 : BitVec 32 := Scalar.addi v144 c4_i32_60
  let c128_i32_334 : BitVec 32 := 128#32
  let v701 : BitVec 32 := Scalar.muli v145 c128_i32_334
  v701
def k0_mult79 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_61 : BitVec 32 := 16#32
  let v146 : BitVec 32 := Scalar.muli arg10 c16_i32_61
  let c5_i32 : BitVec 32 := 5#32
  let v147 : BitVec 32 := Scalar.addi v146 c5_i32
  let c128_i32_339 : BitVec 32 := 128#32
  let v722 : BitVec 32 := Scalar.muli v147 c128_i32_339
  v722
def k0_mult80 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_62 : BitVec 32 := 16#32
  let v148 : BitVec 32 := Scalar.muli arg10 c16_i32_62
  let c6_i32 : BitVec 32 := 6#32
  let v149 : BitVec 32 := Scalar.addi v148 c6_i32
  let c128_i32_344 : BitVec 32 := 128#32
  let v743 : BitVec 32 := Scalar.muli v149 c128_i32_344
  v743
def k0_mult81 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_63 : BitVec 32 := 16#32
  let v150 : BitVec 32 := Scalar.muli arg10 c16_i32_63
  let c7_i32 : BitVec 32 := 7#32
  let v151 : BitVec 32 := Scalar.addi v150 c7_i32
  let c128_i32_349 : BitVec 32 := 128#32
  let v764 : BitVec 32 := Scalar.muli v151 c128_i32_349
  v764
def k0_mult82 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_64 : BitVec 32 := 16#32
  let v152 : BitVec 32 := Scalar.muli arg10 c16_i32_64
  let c8_i32 : BitVec 32 := 8#32
  let v153 : BitVec 32 := Scalar.addi v152 c8_i32
  let c128_i32_354 : BitVec 32 := 128#32
  let v785 : BitVec 32 := Scalar.muli v153 c128_i32_354
  v785
def k0_mult83 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_65 : BitVec 32 := 16#32
  let v154 : BitVec 32 := Scalar.muli arg10 c16_i32_65
  let c9_i32 : BitVec 32 := 9#32
  let v155 : BitVec 32 := Scalar.addi v154 c9_i32
  let c128_i32_359 : BitVec 32 := 128#32
  let v806 : BitVec 32 := Scalar.muli v155 c128_i32_359
  v806
def k0_mult84 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_66 : BitVec 32 := 16#32
  let v156 : BitVec 32 := Scalar.muli arg10 c16_i32_66
  let c10_i32 : BitVec 32 := 10#32
  let v157 : BitVec 32 := Scalar.addi v156 c10_i32
  let c128_i32_364 : BitVec 32 := 128#32
  let v827 : BitVec 32 := Scalar.muli v157 c128_i32_364
  v827
def k0_mult85 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_67 : BitVec 32 := 16#32
  let v158 : BitVec 32 := Scalar.muli arg10 c16_i32_67
  let c11_i32 : BitVec 32 := 11#32
  let v159 : BitVec 32 := Scalar.addi v158 c11_i32
  let c128_i32_369 : BitVec 32 := 128#32
  let v848 : BitVec 32 := Scalar.muli v159 c128_i32_369
  v848
def k0_mult86 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_68 : BitVec 32 := 16#32
  let v160 : BitVec 32 := Scalar.muli arg10 c16_i32_68
  let c12_i32 : BitVec 32 := 12#32
  let v161 : BitVec 32 := Scalar.addi v160 c12_i32
  let c128_i32_374 : BitVec 32 := 128#32
  let v869 : BitVec 32 := Scalar.muli v161 c128_i32_374
  v869
def k0_mult87 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_69 : BitVec 32 := 16#32
  let v162 : BitVec 32 := Scalar.muli arg10 c16_i32_69
  let c13_i32 : BitVec 32 := 13#32
  let v163 : BitVec 32 := Scalar.addi v162 c13_i32
  let c128_i32_379 : BitVec 32 := 128#32
  let v890 : BitVec 32 := Scalar.muli v163 c128_i32_379
  v890
def k0_mult88 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_70 : BitVec 32 := 16#32
  let v164 : BitVec 32 := Scalar.muli arg10 c16_i32_70
  let c14_i32 : BitVec 32 := 14#32
  let v165 : BitVec 32 := Scalar.addi v164 c14_i32
  let c128_i32_384 : BitVec 32 := 128#32
  let v911 : BitVec 32 := Scalar.muli v165 c128_i32_384
  v911
def k0_mult89 (k0_t3 : Fin k0_t3_loop.trips) : BitVec 32 :=
  let c0_i32_49 : BitVec 32 := 0#32
  let c1_i32_51 : BitVec 32 := 1#32
  let arg10 : BitVec 32 := Scf.iv c0_i32_49 c1_i32_51 k0_t3
  let c16_i32_71 : BitVec 32 := 16#32
  let v166 : BitVec 32 := Scalar.muli arg10 c16_i32_71
  let c15_i32 : BitVec 32 := 15#32
  let v167 : BitVec 32 := Scalar.addi v166 c15_i32
  let c128_i32_389 : BitVec 32 := 128#32
  let v932 : BitVec 32 := Scalar.muli v167 c128_i32_389
  v932
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.Ffn.lean ====
/-
  The arithmetic both feed-forward kernels share, over the extended reals, and their accumulation over the grid: 8 row
  blocks of 1024 rows, each visited by 11 points in turn, one for each tile of 512 hidden columns.
-/
module

public import Idealize.ShloMosaic.Lib.Pointwise
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem

namespace Cert.Ffn

/-- A matrix of `a` rows and `b` columns over the extended reals. -/
abbrev Mat (a b : ℕ) : Type := (⟨2, ![a, b]⟩ : Shape).Idx → EReal

/-- The root-mean-square normalisation of row `i 0` of `X`, at column `i 1`, scaled by the weight `g`. -/
def normed {n : ℕ} (X : Mat n 2048) (g : Mat 1 2048) : Mat n 2048 := fun i =>
  X i * Ideal.rsqrt (Ideal.div (∑ k : Fin 2048, X (ix2 (i 0) k) * X (ix2 (i 0) k)) (Ideal.ofBits .f32 0x45000000#32)
    + Ideal.ofBits .f32 0x358637BD#32) * g (ix2 0 (i 1))

/-- A row's normalisation depends on that row alone. -/
theorem normed_row {n m : ℕ} {x : Mat n 2048} {X : Mat m 2048} {g G : Mat 1 2048} (i : (⟨2, ![n, 2048]⟩ : Shape).Idx)
    (j : (⟨2, ![m, 2048]⟩ : Shape).Idx) (hg : g = G) (e : (j 1).val = (i 1).val)
    (h : ∀ (p : (⟨2, ![n, 2048]⟩ : Shape).Idx) (q : (⟨2, ![m, 2048]⟩ : Shape).Idx), p 0 = i 0 → q 0 = j 0 →
      (q 1).val = (p 1).val → x p = X q) :
    normed x g i = normed X G j := by
  subst hg
  unfold normed
  have hS := Finset.sum_congr (rfl : (Finset.univ : Finset (Fin 2048)) = _) fun q _ =>
    congrArg₂ (fun a b : EReal => a * b) (h (ix2 (i 0) q) (ix2 (j 0) q) rfl rfl rfl) (h (ix2 (i 0) q) (ix2 (j 0) q) rfl rfl rfl)
  have e1 : (i 1 : Fin 2048) = j 1 := Fin.ext e.symm
  rw [h i j rfl rfl e, hS]
  exact congrArg (fun q : Fin 2048 => X j * _ * g (ix2 0 q)) e1

/-- The gated activation at row `r`, hidden column `f`: `z · logistic z · u`, with `z` and `u` the two projections. -/
def act {n h : ℕ} (H : Mat n 2048) (wg wu : Mat 2048 h) (r : Fin n) (f : Fin h) : EReal :=
  (∑ k : Fin 2048, H (ix2 r k) * wg (ix2 k f)) * Ideal.logistic (∑ k : Fin 2048, H (ix2 r k) * wg (ix2 k f))
    * ∑ k : Fin 2048, H (ix2 r k) * wu (ix2 k f)

/-- The gated feed-forward of the rows of `H`, `h` hidden columns: row `y 0`, column `y 1`. -/
def ff {n h : ℕ} (H : Mat n 2048) (wg wu : Mat 2048 h) (wd : Mat h 2048) : Mat n 2048 := fun y =>
  ∑ f : Fin h, act H wg wu (y 0) f * wd (ix2 f (y 1))

section Rows

variable {sig : RefSig} {κ : Kind} {sp : Space} {e : EltTy}

/-- A load of whole rows from row `o` on, read at row `o + x 0`. -/
theorem readAt_rows {d : Fin 2 → ℕ} (v : View sig κ sp (⟨2, d⟩ : Shape) e)
    (f : v.ty.Contents (Elt Ideal)) {off size : Fin 2 → ℕ} {o : ℕ} (inb : ∀ a : Fin 2, off a + size a ≤ d a)
    (x : (Rect.unit (s := ⟨2, d⟩) off size inb).shape.Idx) (y : (⟨2, d⟩ : Shape).Idx) (hoff : off = ![o, 0])
    (h0 : (y 0).val = o + (x 0).val) (h1 : (y 1).val = (x 1).val) :
    v.readAt (Elt Ideal) (Rect.unit (s := ⟨2, d⟩) off size inb).toLoadRect f x = v.read (Elt Ideal) f y := by
  subst hoff
  rw [View.readAt_eq_ld]
  exact View.ld_unit_apply_of _ _ _ _ x y (Fin.forall_fin_two.mpr ⟨h0, by rw [h1]; exact (Nat.zero_add _).symm⟩)

/-- One whole-array store over anything reads back its value. -/
theorem read_whole_store (v : View sig κ sp (⟨2, ![1024, 2048]⟩ : Shape) e) (f : v.ty.Contents (Elt Ideal))
    (inb : ∀ a : Fin 2, ![0, 0] a + ![1024, 2048] a ≤ ![1024, 2048] a)
    (w : (Rect.unit (s := ⟨2, ![1024, 2048]⟩) ![0, 0] ![1024, 2048] inb).shape.Idx → Elt Ideal e)
    (L : List (View.Piece (Elt Ideal) (⟨2, ![1024, 2048]⟩ : Shape) e)) (y : (⟨2, ![1024, 2048]⟩ : Shape).Idx) :
    v.read (Elt Ideal) (v.writes (Elt Ideal) f ((⟨Rect.unit (s := ⟨2, ![1024, 2048]⟩) ![0, 0] ![1024, 2048] inb, w⟩
      : View.Piece (Elt Ideal) (⟨2, ![1024, 2048]⟩ : Shape) e) :: L)) y = w y :=
  View.read_writes_cons_rows_of_mem (d := ![1024, 2048]) (size := ![1024, 2048]) (o := 0) v f _ w L y y rfl
    (Nat.zero_add _).symm rfl

/-- Eight stores of 128 rows each, top to bottom, piece lists `P k` after `k` of them: rows from `128 k` on still read the
contents stored over. -/
theorem rows_kept (P : ℕ → List (View.Piece (Elt Ideal) (⟨2, ![1024, 2048]⟩ : Shape) e)) (h0 : P 0 = [])
    (hs : ∀ k, k < 8 → ∃ (off : Fin 2 → ℕ) (inb : ∀ a : Fin 2, off a + ![128, 2048] a ≤ ![1024, 2048] a)
      (w : (Rect.unit (s := ⟨2, ![1024, 2048]⟩) off ![128, 2048] inb).shape.Idx → Elt Ideal e),
      off = ![128 * k, 0] ∧ P (k + 1) = ⟨Rect.unit (s := ⟨2, ![1024, 2048]⟩) off ![128, 2048] inb, w⟩ :: P k)
    (k : ℕ) (hk : k ≤ 8) (v : View sig κ sp (⟨2, ![1024, 2048]⟩ : Shape) e) (f : v.ty.Contents (Elt Ideal))
    (y : (⟨2, ![1024, 2048]⟩ : Shape).Idx) (hy : 128 * k ≤ (y 0).val) :
    v.read (Elt Ideal) (v.writes (Elt Ideal) f (P k)) y = v.read (Elt Ideal) f y := by
  induction k with
  | zero => rw [h0]; rfl
  | succ k ih =>
    obtain ⟨off, inb, w, ho, hp⟩ := hs k (by omega)
    rw [hp, View.read_writes_cons_rows_of_not_mem (d := ![1024, 2048]) (size := ![128, 2048]) (o := 128 * k) (W := 128)
      v f inb w _ y ho rfl (by omega)]
    exact ih (by omega) (by omega)

/-- The same stores, each storing its rows of `T`: the first `128 k` rows read `T`. -/
theorem rows_done (T : (⟨2, ![1024, 2048]⟩ : Shape).Idx → Elt Ideal e)
    (P : ℕ → List (View.Piece (Elt Ideal) (⟨2, ![1024, 2048]⟩ : Shape) e))
    (hs : ∀ k, k < 8 → ∃ (off : Fin 2 → ℕ) (inb : ∀ a : Fin 2, off a + ![128, 2048] a ≤ ![1024, 2048] a)
      (w : (Rect.unit (s := ⟨2, ![1024, 2048]⟩) off ![128, 2048] inb).shape.Idx → Elt Ideal e),
      off = ![128 * k, 0] ∧ P (k + 1) = ⟨Rect.unit (s := ⟨2, ![1024, 2048]⟩) off ![128, 2048] inb, w⟩ :: P k
        ∧ ∀ (x : (⟨2, ![128, 2048]⟩ : Shape).Idx) (y : (⟨2, ![1024, 2048]⟩ : Shape).Idx), (y 0).val = 128 * k + (x 0).val →
          (y 1).val = (x 1).val → w x = T y)
    (k : ℕ) (hk : k ≤ 8) (v : View sig κ sp (⟨2, ![1024, 2048]⟩ : Shape) e) (f : v.ty.Contents (Elt Ideal))
    (y : (⟨2, ![1024, 2048]⟩ : Shape).Idx) (hy : (y 0).val < 128 * k) :
    v.read (Elt Ideal) (v.writes (Elt Ideal) f (P k)) y = T y := by
  induction k with
  | zero => omega
  | succ k ih =>
    obtain ⟨off, inb, w, ho, hp, hw⟩ := hs k (by omega)
    rw [hp]
    by_cases h : 128 * k ≤ (y 0).val
    · have e0 : (y 0).val = 128 * k + ((y 0).val - 128 * k) := by omega
      let x : (⟨2, ![128, 2048]⟩ : Shape).Idx := ix2 (⟨(y 0).val - 128 * k, by omega⟩ : Fin 128) (y 1)
      rw [View.read_writes_cons_rows_of_mem (d := ![1024, 2048]) (size := ![128, 2048]) (o := 128 * k) v f inb w _ y x ho e0 rfl]
      exact hw x y e0 rfl
    · rw [View.read_writes_cons_rows_of_not_mem (d := ![1024, 2048]) (size := ![128, 2048]) (o := 128 * k) (W := 128)
        v f inb w _ y ho rfl (by omega)]
      exact ih (by omega) (by omega)

end Rows

/-- Row `r` of row block `b`. -/
abbrev grow (b : ℕ) (hb : b < 8) (r : Fin 1024) : Fin 8192 := ⟨1024 * b + r.val, by omega⟩

/-- What the points of the grid read and leave: point `t` is tile `t % 11` of row block `t / 11`; it reads its rows `xb t`,
the normalisation weight `gb t` and the tile's columns or rows of the three weights; it leaves `out` and the scratch `scr`.
The first point of a row block fills the scratch with the normalised rows and starts the sum, the others keep the scratch;
those before the last add their tile to the sum. -/
structure Grid (X : Mat 8192 2048) (G : Mat 1 2048) (Wg Wu : Mat 2048 5632) (Wd : Mat 5632 2048) (N : ℕ)
    (xb : Fin N → Mat 1024 2048) (gb : Fin N → Mat 1 2048) (wgb wub : Fin N → Mat 2048 512) (wdb : Fin N → Mat 512 2048)
    (out scr : ∀ n, n < N → Mat 1024 2048) : Prop where
  blk : ∀ t : Fin N, t.val / 11 < 8
  x : ∀ t y, xb t y = X (ix2 (grow (t.val / 11) (blk t) (y 0)) (y 1))
  g : ∀ t, gb t = G
  wg : ∀ (t : Fin N) (k : Fin 2048) (f : Fin 512), wgb t (ix2 k f) = Wg (ix2 k ⟨512 * (t.val % 11) + f.val, by omega⟩)
  wu : ∀ (t : Fin N) (k : Fin 2048) (f : Fin 512), wub t (ix2 k f) = Wu (ix2 k ⟨512 * (t.val % 11) + f.val, by omega⟩)
  wd : ∀ (t : Fin N) (f : Fin 512) (d : Fin 2048), wdb t (ix2 f d) = Wd (ix2 ⟨512 * (t.val % 11) + f.val, by omega⟩ d)
  scr_first : ∀ t : Fin N, t.val % 11 = 0 → ∀ y, scr t.val t.isLt y = normed (xb t) (gb t) y
  scr_keep : ∀ t : Fin N, ¬ t.val % 11 = 0 →
    scr t.val t.isLt = scr (t.val - 1) (Nat.lt_of_le_of_lt (Nat.sub_le _ _) t.isLt)
  out_first : ∀ t : Fin N, t.val % 11 = 0 → ∀ y,
    out t.val t.isLt y = ff (normed (xb t) (gb t)) (wgb t) (wub t) (wdb t) y
  out_add : ∀ t : Fin N, ¬ t.val % 11 = 0 → ¬ t.val % 11 = 10 → ∀ y,
    out t.val t.isLt y = out (t.val - 1) (Nat.lt_of_le_of_lt (Nat.sub_le _ _) t.isLt) y
      + ff (scr (t.val - 1) (Nat.lt_of_le_of_lt (Nat.sub_le _ _) t.isLt)) (wgb t) (wub t) (wdb t) y

namespace Grid

variable {X : Mat 8192 2048} {G : Mat 1 2048} {Wg Wu : Mat 2048 5632} {Wd : Mat 5632 2048} {N : ℕ}
  {xb : Fin N → Mat 1024 2048} {gb : Fin N → Mat 1 2048} {wgb wub : Fin N → Mat 2048 512} {wdb : Fin N → Mat 512 2048}
  {out scr : ∀ n, n < N → Mat 1024 2048}

/-- Hidden column `f`'s contribution to the output at row `r`, column `d`; zero past the last hidden column. -/
def term (X : Mat 8192 2048) (G : Mat 1 2048) (Wg Wu : Mat 2048 5632) (Wd : Mat 5632 2048) (r : Fin 8192) (d : Fin 2048)
    (f : ℕ) : EReal :=
  if h : f < 5632 then act (normed X G) Wg Wu r ⟨f, h⟩ * Wd (ix2 ⟨f, h⟩ d) else 0

variable (A : Grid X G Wg Wu Wd N xb gb wgb wub wdb out scr)
include A

theorem normed_at (t : Fin N) (y : (⟨2, ![1024, 2048]⟩ : Shape).Idx) :
    normed (xb t) (gb t) y = normed X G (ix2 (grow (t.val / 11) (A.blk t) (y 0)) (y 1)) :=
  normed_row y _ (A.g t) rfl fun p q hp hq e => (A.x t p).trans (congrArg X (Shape.idx_ext₂
    (by rw [show q 0 = _ from hq]; exact congrArg (fun r : Fin 1024 => (grow (t.val / 11) (A.blk t) r).val) hp) e.symm))

/-- A tile over the normalised rows of its block is that tile's stretch of the hidden columns' contributions. -/
theorem tile_at (t : Fin N) (H : Mat 1024 2048)
    (hH : ∀ y, H y = normed X G (ix2 (grow (t.val / 11) (A.blk t) (y 0)) (y 1))) (y : (⟨2, ![1024, 2048]⟩ : Shape).Idx) :
    ff H (wgb t) (wub t) (wdb t) y
      = ∑ f ∈ Finset.range 512, term X G Wg Wu Wd (grow (t.val / 11) (A.blk t) (y 0)) (y 1) (512 * (t.val % 11) + f) := by
  rw [← Fin.sum_univ_eq_sum_range (fun f => term X G Wg Wu Wd (grow (t.val / 11) (A.blk t) (y 0)) (y 1) (512 * (t.val % 11) + f))]
  unfold ff
  refine Finset.sum_congr rfl fun f _ => ?_
  have hf : 512 * (t.val % 11) + f.val < 5632 := by omega
  unfold term
  rw [dif_pos hf]
  refine congrArg₂ (fun a b : EReal => a * b) ?_ (A.wd t f (y 1))
  have hg := Finset.sum_congr (rfl : (Finset.univ : Finset (Fin 2048)) = _) fun k _ =>
    congrArg₂ (fun a b : EReal => a * b) (hH (ix2 (y 0) k)) (A.wg t k f)
  have hu := Finset.sum_congr (rfl : (Finset.univ : Finset (Fin 2048)) = _) fun k _ =>
    congrArg₂ (fun a b : EReal => a * b) (hH (ix2 (y 0) k)) (A.wu t k f)
  exact congrArg₂ (fun a b : EReal => a * Ideal.logistic a * b) hg hu

/-- After every point the scratch holds the normalised rows of that point's row block. -/
theorem scr_at : ∀ (n : ℕ) (h : n < N) (y : (⟨2, ![1024, 2048]⟩ : Shape).Idx),
    scr n h y = normed X G (ix2 (grow (n / 11) (A.blk ⟨n, h⟩) (y 0)) (y 1)) := by
  intro n
  induction n with
  | zero => exact fun h y => (A.scr_first ⟨0, h⟩ rfl y).trans (A.normed_at ⟨0, h⟩ y)
  | succ n ih =>
    intro h y
    by_cases h0 : (n + 1) % 11 = 0
    · exact (A.scr_first ⟨n + 1, h⟩ h0 y).trans (A.normed_at ⟨n + 1, h⟩ y)
    · refine (congrFun (A.scr_keep ⟨n + 1, h⟩ h0) y).trans ((ih (Nat.lt_of_succ_lt h) y).trans ?_)
      have e : n / 11 = (n + 1) / 11 := by omega
      simp only [e]

/-- After a point that is not its row block's last, the output block holds the contributions of the hidden columns so far. -/
theorem out_at : ∀ (n : ℕ) (h : n < N) (_ : ¬ n % 11 = 10) (y : (⟨2, ![1024, 2048]⟩ : Shape).Idx),
    out n h y
      = ∑ f ∈ Finset.range (512 * (n % 11 + 1)), term X G Wg Wu Wd (grow (n / 11) (A.blk ⟨n, h⟩) (y 0)) (y 1) f := by
  intro n
  induction n with
  | zero =>
    intro h h1 y
    rw [A.out_first ⟨0, h⟩ rfl y, A.tile_at ⟨0, h⟩ _ (A.normed_at ⟨0, h⟩) y]
    simp
  | succ n ih =>
    intro h h1 y
    by_cases h0 : (n + 1) % 11 = 0
    · rw [A.out_first ⟨n + 1, h⟩ h0 y, A.tile_at ⟨n + 1, h⟩ _ (A.normed_at ⟨n + 1, h⟩) y]
      simp [h0]
    · have e : n / 11 = (n + 1) / 11 := by omega
      have e' : 512 * ((n + 1) % 11 + 1) = 512 * (n % 11 + 1) + 512 := by omega
      have e'' : 512 * (n % 11 + 1) = 512 * ((n + 1) % 11) := by omega
      have hp := ih (Nat.lt_of_succ_lt h) (by omega) y
      have ht := A.tile_at ⟨n + 1, h⟩ (scr n (Nat.lt_of_succ_lt h))
        (fun y => (A.scr_at n (Nat.lt_of_succ_lt h) y).trans (by simp only [e])) y
      refine (A.out_add ⟨n + 1, h⟩ h0 h1 y).trans ?_
      rw [e', Finset.sum_range_add]
      refine congrArg₂ (fun a b : EReal => a + b) (hp.trans (by simp only [e])) (ht.trans ?_)
      rw [e'']

/-- At the last point of a row block, the sum so far and that point's tile make up the whole feed-forward of the row. -/
theorem total (t : Fin N) (h1 : t.val % 11 = 10) (y : (⟨2, ![1024, 2048]⟩ : Shape).Idx) :
    out (t.val - 1) (Nat.lt_of_le_of_lt (Nat.sub_le _ _) t.isLt) y
        + ff (scr (t.val - 1) (Nat.lt_of_le_of_lt (Nat.sub_le _ _) t.isLt)) (wgb t) (wub t) (wdb t) y
      = ff (normed X G) Wg Wu Wd (ix2 (grow (t.val / 11) (A.blk t) (y 0)) (y 1)) := by
  have hpos : t.val - 1 < N := Nat.lt_of_le_of_lt (Nat.sub_le _ _) t.isLt
  have e : (t.val - 1) / 11 = t.val / 11 := by omega
  have hp := A.out_at (t.val - 1) hpos (by omega) y
  have ht := A.tile_at t (scr (t.val - 1) hpos) (fun y => (A.scr_at (t.val - 1) hpos y).trans (by simp only [e])) y
  have hsum : ff (normed X G) Wg Wu Wd (ix2 (grow (t.val / 11) (A.blk t) (y 0)) (y 1))
      = ∑ f ∈ Finset.range (5120 + 512), term X G Wg Wu Wd (grow (t.val / 11) (A.blk t) (y 0)) (y 1) f := by
    rw [← Fin.sum_univ_eq_sum_range (fun f => term X G Wg Wu Wd (grow (t.val / 11) (A.blk t) (y 0)) (y 1) f)]
    unfold ff
    refine Finset.sum_congr rfl fun f _ => ?_
    unfold term
    rw [dif_pos f.isLt]
    rfl
  rw [ht]
  refine Eq.trans ?_ hsum.symm
  rw [Finset.sum_range_add]
  have e1 : 512 * ((t.val - 1) % 11 + 1) = 5120 := by omega
  have e2 : 512 * (t.val % 11) = 5120 := by omega
  rw [e2]
  refine congrArg₂ (fun a b : EReal => a + b) (hp.trans ?_) rfl
  rw [e1]
  simp only [e]

end Grid

end Cert.Ffn
-- ==== Proof.Ffn1Step.lean ====
/-
  The first feed-forward kernel's row loops and what one grid point leaves, read at an index over the extended reals.
-/
module

public import proofs.«01_k».proof.Defs
public import proofs.«01_k».proof.Proof.Ffn
public import proofs.«01_k».proof.Proof.Gen.Kernel1Ideal.Loops
public import proofs.«01_k».proof.Proof.Gen.Kernel1Ideal.Frame
public import Idealize.ShloMosaic.Lib.Pipeline.ReadBack

@[expose] public section

set_option maxRecDepth 16384

noncomputable section

open Idealize.ShloMosaic Idealize.ShloMosaic.TcCoe Idealize.SL.Sem

namespace Cert.Ffn1

open Cert.Kernel1Ideal Cert.Kernel1Ideal.Gen Cert.Ffn

/-- One row block's stored activation is the normalisation of that block's rows. -/
theorem norm_eq (v : Vec Ideal S128x2048 .f32) (g : Vec Ideal S1x2048 .f32) (x : S128x2048.Idx) :
    k0_pay3 v g x = normed (n := 128) v g x := by
  pointwise [k0_pay3, normed]

theorem zero_eq (x : S128x2048.Idx) : k0_pay4 (F := Ideal) x = 0 := by
  pointwise [k0_pay4]

theorem fin_eq (v o : Vec Ideal S128x2048 .f32) (x : S128x2048.Idx) :
    k0_pay2 v o x = v x + Ideal.ofBits .f32 0x3F000000#32 * o x := by
  pointwise [k0_pay2]

/-- A grid point's arithmetic adds the tile's contribution to the accumulator. -/
theorem step_eq (H : Vec Ideal S1024x2048 .bf16) (wg wu : Vec Ideal S2048x512 .bf16) (wd : Vec Ideal S512x2048 .bf16)
    (acc : Vec Ideal S1024x2048 .f32) (y : S1024x2048.Idx) :
    k0_pay5 H wg wu acc wd y = acc y + ff (n := 1024) (h := 512) H wg wu wd y := by
  pointwise [k0_pay5, ff, act]

section Loops

variable (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S704x256 .f32) (harg10 : arg10.IsWhole) (arg11 : Memref sig .tc .vmem S256x256 .f32) (harg11 : arg11.IsWhole) (arg12 : Memref sig .tc .vmem S1024x2048 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S704x256 .bf16) (harg15 : arg15.IsWhole) (arg16 : Memref sig .tc .vmem S256x256 .bf16) (harg16 : arg16.IsWhole) (arg17 : Memref sig .tc .vmem S1024x2048 .bf16) (harg17 : arg17.IsWhole)

theorem trips1 : k0_t1_loop.trips = 8 := by decide +kernel
theorem trips2 : k0_t2_loop.trips = 8 := by decide +kernel

/-- After `k` trips of the first loop the accumulator's first `128 k` rows hold zero. -/
theorem loop1_zero (h1 : k0_cond1 i = 1#1) (X : BufTy.Contents (Elt Ideal) arg2.view.ty)
    (X3 : BufTy.Contents (Elt Ideal) arg3.view.ty) {κ : Kind} {sp : Space} (v : View sig κ sp S1024x2048 .f32)
    (f : v.ty.Contents (Elt Ideal)) (k : ℕ) (hk : k ≤ 8) (y : S1024x2048.Idx) (hy : (y 0).val < 128 * k) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 k).1) y = (0 : EReal) := by
  refine rows_done (e := .f32) (fun _ => (0 : EReal)) (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 k).1) (fun k hk => ?_) k hk v f y hy
  have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 ⟨k, by rw [trips1]; omega⟩
  dsimp only [tripL_k0_t1] at hs
  unfold trip_k0_t1 at hs
  exact ⟨_, _, _, k0_off1_eq ⟨k, by rw [trips1]; omega⟩, congrArg Prod.fst hs, fun x y _ _ => zero_eq x⟩

/-- After `k` trips of the first loop the activation's first `128 k` rows hold the normalised input rows. -/
theorem loop1_norm (h1 : k0_cond1 i = 1#1) (X : BufTy.Contents (Elt Ideal) arg2.view.ty)
    (X3 : BufTy.Contents (Elt Ideal) arg3.view.ty) {κ : Kind} {sp : Space} (v : View sig κ sp S1024x2048 .bf16)
    (f : v.ty.Contents (Elt Ideal)) (k : ℕ) (hk : k ≤ 8) (y : S1024x2048.Idx) (hy : (y 0).val < 128 * k) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 k).2) y
      = normed (n := 1024) (arg2.view.read (Elt Ideal) X) (arg3.view.read (Elt Ideal) X3) y := by
  refine rows_done (e := .bf16) (normed (n := 1024) (arg2.view.read (Elt Ideal) X) (arg3.view.read (Elt Ideal) X3))
    (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 k).2) (fun k hk => ?_) k hk v f y hy
  have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X X3 ⟨k, by rw [trips1]; omega⟩
  dsimp only [tripL_k0_t1] at hs
  unfold trip_k0_t1 at hs
  refine ⟨_, _, _, k0_off1_eq ⟨k, by rw [trips1]; omega⟩, congrArg Prod.snd hs, fun x y e0 e1 => (norm_eq _ _ x).trans ?_⟩
  exact normed_row x y (funext fun x => readAt_rows arg3.view X3 _ x x rfl (Nat.zero_add _).symm rfl) e1
    fun p q hp hq e => readAt_rows arg2.view X _ p q (k0_off1_eq _) (by rw [hp, hq]; exact e0) e

/-- The last point's loop, run over an accumulator `G`: every row ends as the input plus half the accumulator. -/
theorem loop2 (h2 : k0_cond2 i = 1#1) (X : BufTy.Contents (Elt Ideal) arg2.view.ty)
    (G : BufTy.Contents (Elt Ideal) arg12.view.ty) (k : ℕ) (hk : k ≤ 8) (y : S1024x2048.Idx) (hy : (y 0).val < 128 * k)
    {κ : Kind} {sp : Space} (v : View sig κ sp S1024x2048 .f32) (f : v.ty.Contents (Elt Ideal)) :
    v.read (Elt Ideal) (v.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 X G k)) y
      = arg2.view.read (Elt Ideal) X y + Ideal.ofBits .f32 0x3F000000#32 * arg12.view.read (Elt Ideal) G y := by
  have hs : ∀ k : ℕ, (h : k < 8) → _ := fun k h =>
    pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 X G ⟨k, by rw [trips2]; omega⟩
  dsimp only [tripL_k0_t2] at hs
  unfold trip_k0_t2 at hs
  have kept := fun k hk y hy => rows_kept (e := .f32) (fun k => pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 X G k) rfl
    (fun k hk => ⟨_, _, _, k0_off2_eq ⟨k, by rw [trips2]; omega⟩, hs k hk⟩) k hk arg12.view G y hy
  refine rows_done (e := .f32) (fun y => (arg2.view.read (Elt Ideal) X y : EReal) + Ideal.ofBits .f32 0x3F000000#32 * (arg12.view.read (Elt Ideal) G y : EReal))
    (fun k => pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 X G k)
    (fun k hk => ⟨_, _, _, k0_off2_eq ⟨k, by rw [trips2]; omega⟩, hs k hk, fun x y e0 e1 => (fin_eq _ _ x).trans ?_⟩) k hk v f y hy
  exact congrArg₂ (fun a b : EReal => a + Ideal.ofBits .f32 0x3F000000#32 * b)
    (readAt_rows arg2.view X _ x y (k0_off2_eq _) e0 e1)
    ((readAt_rows arg12.view _ _ x y (k0_off2_eq _) e0 e1).trans (kept k hk.le y (by omega)))

end Loops

variable (m : (ℓ : Loc nD τ sig) → Buf (Elt Ideal) ℓ)

/-- The block of 1024 input rows that point `t` reads. -/
abbrev xblk (c : Dev nD) (t : Fin cfg0.N) : S1024x2048.Idx → EReal := iblk m c 0 t

/-- What the point before `t` left, output block and scratch among it. -/
abbrev prev (c : Dev nD) (t : Fin cfg0.N) := outsAt0 m c (t.val - 1) (Nat.lt_of_le_of_lt (Nat.sub_le _ _) t.isLt)

/-- A point that is neither the first nor the last of its row block adds its tile to the output block. -/
theorem outB (c : Dev nD) (t : Fin cfg0.N) (h0 : ¬ t.val % 11 = 0) (h1 : ¬ t.val % 11 = 10) (y : S1024x2048.Idx) :
    (outsAt0 m c t.val t.isLt).1 y
      = (prev m c t).1 y + ff (n := 1024) (h := 512) (prev m c t).2.2.2.2.2 (iblk m c 2 t) (iblk m c 3 t) (iblk m c 4 t) y := by
  rw [outsAt0_B m c t h0 h1]
  dsimp only
  frame_open
  frame_out
  simp only [read_unread_whole]
  exact step_eq ..

/-- Every point but the first of a row block keeps the scratch. -/
theorem scr_keep (c : Dev nD) (t : Fin cfg0.N) (h0 : ¬ t.val % 11 = 0) :
    (outsAt0 m c t.val t.isLt).2.2.2.2.2 = (prev m c t).2.2.2.2.2 := by
  by_cases h1 : t.val % 11 = 10
  · rw [outsAt0_C m c t h0 h1]
    rfl
  · rw [outsAt0_B m c t h0 h1]
    rfl

/-- The first point of a row block leaves the block's normalised rows in the scratch. -/
theorem scrA (c : Dev nD) (t : Fin cfg0.N) (h0 : t.val % 11 = 0) (y : S1024x2048.Idx) :
    (outsAt0 m c t.val t.isLt).2.2.2.2.2 y = normed (n := 1024) (iblk m c 0 t) (iblk m c 1 t) y := by
  rw [outsAt0_A m c t h0 (by omega)]
  dsimp only
  frame_open
  refine (loop1_norm (k := 8) (hk := le_rfl) (hy := (y 0).isLt) ..).trans ?_
  rw [(hs0_0 t).read_unread, (hs0_1 t).read_unread]

/-- Contents just written, loaded back whole. -/
theorem readCov_whole {κ : Kind} {sp : Space} {e : EltTy} (v : View sig κ sp S1024x2048 e)
    (L : List (View.Piece (Elt Ideal) S1024x2048 e)) (x : S1024x2048.Idx) :
    v.readCov L (Rect.unit (s := S1024x2048) ![0, 0] ![1024, 2048] inb_S1024x2048_S1024x2048_0_0).toLoadRect x
      = v.read (Elt Ideal) (v.writes (Elt Ideal) v.junk L) x :=
  readAt_rows v _ _ x x rfl (Nat.zero_add _).symm rfl

/-- The first point of a row block leaves its tile in the output block. -/
theorem outA (c : Dev nD) (t : Fin cfg0.N) (h0 : t.val % 11 = 0) (y : S1024x2048.Idx) :
    (outsAt0 m c t.val t.isLt).1 y
      = ff (n := 1024) (h := 512) (normed (n := 1024) (iblk m c 0 t) (iblk m c 1 t)) (iblk m c 2 t) (iblk m c 3 t) (iblk m c 4 t) y := by
  rw [outsAt0_A m c t h0 (by omega)]
  dsimp only
  frame_open
  frame_out
  refine (step_eq ..).trans ?_
  have h8 : Scf.trips (0#32) (Scalar.addi 0#32 8#32) 1#32 = 8 := by decide +kernel
  rw [h8, readCov_whole, loop1_zero (k := 8) (hk := le_rfl) (hy := (y 0).isLt), zero_add]
  congr 1
  funext x
  rw [readCov_whole, loop1_norm (k := 8) (hk := le_rfl) (hy := (x 0).isLt), (hs0_0 t).read_unread, (hs0_1 t).read_unread]

/-- The last point of a row block adds its tile and finishes the block: input plus half the sum. -/
theorem outC (c : Dev nD) (t : Fin cfg0.N) (h0 : ¬ t.val % 11 = 0) (h1 : t.val % 11 = 10) (y : S1024x2048.Idx) :
    (outsAt0 m c t.val t.isLt).1 y
      = xblk m c t y + Ideal.ofBits .f32 0x3F000000#32 * ((prev m c t).1 y
        + ff (n := 1024) (h := 512) (prev m c t).2.2.2.2.2 (iblk m c 2 t) (iblk m c 3 t) (iblk m c 4 t) y) := by
  rw [outsAt0_C m c t h0 h1]
  dsimp only
  frame_open
  rw [View.writes_append]
  refine (loop2 (k := 8) (hk := le_rfl) (y := y) (hy := (y 0).isLt) ..).trans ?_
  rw [(hs0_0 t).read_unread]
  refine congrArg (fun a : EReal => xblk m c t y + Ideal.ofBits .f32 0x3F000000#32 * a) ((read_whole_store ..).trans ?_)
  frame_out
  simp only [read_unread_whole]
  exact step_eq ..

/-- Every point casts its block of each of the four weights handed on to the second feed-forward: over the extended reals
a copy. -/
theorem casts (c : Dev nD) (t : Fin cfg0.N) :
    (outsAt0 m c t.val t.isLt).2.1 = iblk m c 6 t ∧ (outsAt0 m c t.val t.isLt).2.2.1 = iblk m c 7 t
      ∧ (outsAt0 m c t.val t.isLt).2.2.2.1 = iblk m c 8 t ∧ (outsAt0 m c t.val t.isLt).2.2.2.2.1 = iblk m c 9 t := by
  by_cases h0 : t.val % 11 = 0
  · rw [outsAt0_A m c t h0 (by omega)]
    dsimp only
    refine ⟨?_, ?_, ?_, ?_⟩ <;> frame_out <;> (funext j; pointwise [k0_pay1, k0_pay6, k0_pay7, k0_pay8])
  · by_cases h1 : t.val % 11 = 10
    · rw [outsAt0_C m c t h0 h1]
      dsimp only
      refine ⟨?_, ?_, ?_, ?_⟩ <;> frame_out <;> (funext j; pointwise [k0_pay1, k0_pay6, k0_pay7, k0_pay8])
    · rw [outsAt0_B m c t h0 h1]
      dsimp only
      refine ⟨?_, ?_, ?_, ?_⟩ <;> frame_out <;> (funext j; pointwise [k0_pay1, k0_pay6, k0_pay7, k0_pay8])

end Cert.Ffn1
-- ==== Proof.Ffn1Value.lean ====
/-
  The first feed-forward kernel's five result arrays, as functions of its arguments, over the extended reals.
-/
module

public import proofs.«01_k».proof.Proof.Ffn1Step
public import proofs.«01_k».proof.Proof.Gen.Kernel1Ideal.Value

@[expose] public section

set_option maxRecDepth 16384

noncomputable section

open Idealize.ShloMosaic Idealize.ShloMosaic.TcCoe Idealize.SL.Sem

namespace Cert.Ffn1

open Cert.Kernel1Ideal Cert.Kernel1Ideal.Gen Cert.Ffn

variable (m : (ℓ : Loc nD τ sig) → Buf (Elt Ideal) ℓ)

/-- Which block of its array each window reads or writes at point `t`. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_6.index t = ![t.val / 11, t.val % 11] ∧ win0_7.index t = ![t.val / 11, t.val % 11]
    ∧ win0_8.index t = ![t.val / 11, min (t.val % 11) 7] ∧ win0_9.index t = ![t.val / 11, min (t.val % 11) 7]
    ∧ win0_10.index t = ![t.val / 11, 0]
    ∧ win0_11.index t = ![t.val / 11, t.val % 11] ∧ win0_12.index t = ![t.val / 11, t.val % 11]
    ∧ win0_13.index t = ![t.val / 11, min (t.val % 11) 7] ∧ win0_14.index t = ![t.val / 11, min (t.val % 11) 7] := by
  decide +kernel

/-- The input rows. -/
abbrev X (c : Dev nD) : S8192x2048.Idx → EReal := m ((c : Thread nD τ).loc main_arg0)
/-- The normalisation weight, as one row. -/
abbrev G (c : Dev nD) : S1x2048.Idx → EReal := fun i => m ((c : Thread nD τ).loc main_arg1) (ix1 (i 1))
/-- The gate weight. -/
abbrev Wg (c : Dev nD) : S2048x5632.Idx → EReal := m ((c : Thread nD τ).loc main_arg2)
/-- The up weight. -/
abbrev Wu (c : Dev nD) : S2048x5632.Idx → EReal := m ((c : Thread nD τ).loc main_arg3)
/-- The down weight. -/
abbrev Wd (c : Dev nD) : S5632x2048.Idx → EReal := m ((c : Thread nD τ).loc main_arg4)

theorem blk_lt (t : Fin cfg0.N) : t.val / 11 < 8 := by have := t.isLt; have : cfg0.N = 88 := N_0; omega

theorem x_at (c : Dev nD) (t : Fin cfg0.N) (y : S1024x2048.Idx) :
    xblk m c t y = X m c (ix2 (grow (t.val / 11) (blk_lt t) (y 0)) (y 1)) := by
  unfold xblk X
  blk_ext [iblk, V, idx t]

theorem g_at (c : Dev nD) (t : Fin cfg0.N) : iblk m c 1 t = G m c := by
  funext y
  unfold G
  blk_simp [iblk, idx t]
  entry_read
  pointwise
  refine congrArg (fun q => m ((c : Thread nD τ).loc main_arg1) (ix1 q)) (Fin.ext ?_)
  have e := congrFun (idx t).2.1 1
  simp [e]

theorem wg_at (c : Dev nD) (t : Fin cfg0.N) (k : Fin 2048) (f : Fin 512) :
    (iblk m c 2 t : S2048x512.Idx → EReal) (ix2 k f) = Wg m c (ix2 k ⟨512 * (t.val % 11) + f.val, by omega⟩) := by
  unfold Wg
  blk_ext [iblk, V, idx t]

theorem wu_at (c : Dev nD) (t : Fin cfg0.N) (k : Fin 2048) (f : Fin 512) :
    (iblk m c 3 t : S2048x512.Idx → EReal) (ix2 k f) = Wu m c (ix2 k ⟨512 * (t.val % 11) + f.val, by omega⟩) := by
  unfold Wu
  blk_ext [iblk, V, idx t]

theorem wd_at (c : Dev nD) (t : Fin cfg0.N) (f : Fin 512) (d : Fin 2048) :
    (iblk m c 4 t : S512x2048.Idx → EReal) (ix2 f d) = Wd m c (ix2 ⟨512 * (t.val % 11) + f.val, by omega⟩ d) := by
  unfold Wd
  blk_ext [iblk, V, idx t]

/-- The call's grid reads and leaves what the shared accumulation asks. -/
theorem grid (c : Dev nD) : Grid (X m c) (G m c) (Wg m c) (Wu m c) (Wd m c) cfg0.N (fun t => iblk m c 0 t) (fun t => iblk m c 1 t)
    (fun t => iblk m c 2 t) (fun t => iblk m c 3 t) (fun t => iblk m c 4 t) (fun n h => (outsAt0 m c n h).1)
    (fun n h => (outsAt0 m c n h).2.2.2.2.2) where
  blk := blk_lt
  x := x_at m c
  g := g_at m c
  wg := wg_at m c
  wu := wu_at m c
  wd := wd_at m c
  scr_first := scrA m c
  scr_keep := scr_keep m c
  out_first := outA m c
  out_add := outB m c

/-- The output: the input plus half the feed-forward of its normalised rows. -/
def ffnOut (c : Dev nD) : S8192x2048.Idx → EReal := fun i =>
  X m c i + Ideal.ofBits .f32 0x3F000000#32 * ff (normed (X m c) (G m c)) (Wg m c) (Wu m c) (Wd m c) i

/-- After the last point of a row block the output block is finished. -/
theorem out_last (c : Dev nD) (t : Fin cfg0.N) (h1 : t.val % 11 = 10) (y : S1024x2048.Idx) :
    (outsAt0 m c t.val t.isLt).1 y = ffnOut m c (ix2 (grow (t.val / 11) (blk_lt t) (y 0)) (y 1)) :=
  (outC m c t (by omega) h1 y).trans (congrArg₂ (fun a b : EReal => a + Ideal.ofBits .f32 0x3F000000#32 * b) (x_at m c t y) ((grid m c).total t h1 y))

theorem final10 (c : Dev nD) : (dats m 0 c).arrAt 10 cfg0.N = ffnOut m c := by
  refine (dats m 0 c).arrAt_eq_of_covers 10 _ (by decide +kernel) fun t hf y => ?_
  rw [after0_10]
  refine (out_last m c t ((flush0_10 t).mp hf) _).trans ?_
  refine congrArg (ffnOut m c) ?_
  blk_ext [idx t]

theorem final11 (c : Dev nD) : (dats m 0 c).arrAt 11 cfg0.N = m ((c : Thread nD τ).loc main_arg6) := by
  refine (dats m 0 c).arrAt_eq_of_covers 11 _ (by decide +kernel) fun t hf y => ?_
  rw [after0_11, (casts m c t).1]
  blk_ext [iblk, V, idx t]

theorem final12 (c : Dev nD) : (dats m 0 c).arrAt 12 cfg0.N = m ((c : Thread nD τ).loc main_arg7) := by
  refine (dats m 0 c).arrAt_eq_of_covers 12 _ (by decide +kernel) fun t hf y => ?_
  rw [after0_12, (casts m c t).2.1]
  blk_ext [iblk, V, idx t]

theorem final13 (c : Dev nD) : (dats m 0 c).arrAt 13 cfg0.N = m ((c : Thread nD τ).loc main_arg8) := by
  refine (dats m 0 c).arrAt_eq_of_covers 13 _ (by decide +kernel) fun t hf y => ?_
  rw [after0_13, (casts m c t).2.2.1]
  blk_ext [iblk, V, idx t]

theorem final14 (c : Dev nD) : (dats m 0 c).arrAt 14 cfg0.N = m ((c : Thread nD τ).loc main_arg9) := by
  refine (dats m 0 c).arrAt_eq_of_covers 14 _ (by decide +kernel) fun t hf y => ?_
  rw [after0_14, (casts m c t).2.2.2]
  blk_ext [iblk, V, idx t]

end Cert.Ffn1
-- ==== Proof.Ffn1Ref.lean ====
/-
  The first feed-forward reference's results, as the same functions of its arguments, and the equality of the two programs.
-/
module

public import proofs.«01_k».proof.Defs
public import proofs.«01_k».proof.Proof.Ffn1Value
public import proofs.«01_k».proof.Proof.Gen.Reference1Ideal.Run
public import proofs.«01_k».proof.Proof.Gen.Reference1Ideal.Read

@[expose] public section

set_option maxRecDepth 16384

noncomputable section

open Idealize.ShloMosaic Idealize.ShloMosaic.TcCoe Idealize.SL.Sem

namespace Cert.Ffn1

open Cert.Reference1Ideal Cert.Reference1Ideal.Read Cert.Ffn

variable (x : S8192x2048.Idx → EReal) (g : S2048.Idx → EReal) (wg wu : S2048x5632.Idx → EReal) (wd : S5632x2048.Idx → EReal)

theorem lidx16 (i : S8192x5632.Idx) (k : Fin 2048) : lidx_main_v16 i k = ix2 (i 0) k := Shape.idx_ext₂ rfl rfl
theorem ridx16 (i : S8192x5632.Idx) (k : Fin 2048) : ridx_main_v16 i k = ix2 k (i 1) := Shape.idx_ext₂ rfl rfl
theorem lidx18 (i : S8192x5632.Idx) (k : Fin 2048) : lidx_main_v18 i k = ix2 (i 0) k := Shape.idx_ext₂ rfl rfl
theorem ridx18 (i : S8192x5632.Idx) (k : Fin 2048) : ridx_main_v18 i k = ix2 k (i 1) := Shape.idx_ext₂ rfl rfl
theorem ridx20 (i : S8192x2048.Idx) (k : Fin 5632) : ridx_main_v20 i k = ix2 k (i 1) := Shape.idx_ext₂ rfl rfl
theorem idx4 (i : S8192x2048.Idx) (k : Fin 2048) : idx_main_v4 (idx_main_v5 (idx_main_v11 i)) k = ix2 (i 0) k := Shape.idx_ext₂ rfl rfl
theorem idx13 (i : S8192x2048.Idx) : idx_main_v13 (idx_main_v14 i) = ix1 (i 1) := funext fun a => match a with | ⟨0, _⟩ => rfl

/-- The reference's normalised rows. -/
theorem ref_norm (i : S8192x2048.Idx) :
    val_main_v15 (F := Ideal) x g i = normed (n := 8192) x (fun j => g (ix1 (j 1))) i := by
  rw [val_main_v15_apply, val_main_v12_apply, val_main_v11_apply, val_main_v10_apply, val_main_v9_apply, val_main_v7_apply,
    val_main_v5_apply, val_main_v4_apply, val_main_v6_apply, val_main_v8_apply, val_main_v14_apply, val_main_v13_apply]
  simp only [val_main_v3_apply, val_main_cst_apply, val_main_cst_0_apply, val_main_cst_1_apply]
  unfold normed
  pointwise
  simp only [idx4, idx13]
  rfl

/-- The reference's gated hidden activations. -/
theorem ref_act (i : S8192x5632.Idx) :
    val_main_v19 (F := Ideal) x g wg wu i
      = act (n := 8192) (h := 5632) (normed (n := 8192) x (fun j => g (ix1 (j 1)))) wg wu (i 0) (i 1) := by
  rw [val_main_v19_apply, val_main_v17_apply, val_main_call0_v5_apply, val_main_call0_v4_apply, val_main_call0_v3_apply,
    val_main_call0_v2_apply, val_main_call0_v1_apply, val_main_call0_v0_apply, val_main_v16_apply, val_main_v18_apply]
  simp only [val_main_call0_cst_apply, val_main_call0_cst_0_apply, ref_norm, val_main_v0_apply, val_main_v1_apply]
  unfold act Ideal.logistic
  pointwise
  simp only [lidx16, ridx16, lidx18, ridx18]
  rfl

/-- The reference's output rows. -/
theorem ref_out (i : S8192x2048.Idx) :
    val_main_v23 (F := Ideal) x g wg wu wd i
      = x i + Ideal.ofBits .f32 0x3F000000#32
        * ff (n := 8192) (h := 5632) (normed (n := 8192) x (fun j => g (ix1 (j 1)))) wg wu wd i := by
  rw [val_main_v23_apply, val_main_v22_apply, val_main_v21_apply, val_main_v20_apply]
  simp only [val_main_cst_2_apply, ref_act, val_main_v2_apply]
  unfold ff
  pointwise
  simp only [ridx20]
  rfl

end Cert.Ffn1

namespace Cert.Proof

/-- The first feed-forward reference runs, leaves its arguments alone and ends with every counter at zero. -/
theorem frameR1 [hR : Cert.Reference1Ideal.Facts] : quiescent_Reference1Ideal (hReference1Ideal := hR) := by
  intro m g _
  exact (θ_run _ _ _).mono (fun r h => ⟨fun c => (h c).2.2.2.2.2, sem_eq_zero_of_no_sems (by decide) r.2⟩)
    (Cert.Reference1Ideal.Value.run (F := Ideal) m g)

/-- Over the extended reals the first feed-forward kernel and its reference end with equal results. -/
theorem algebraic1 [hK : Cert.Kernel1Ideal.Facts] [hR : Cert.Reference1Ideal.Facts] :
    algebraic_Kernel1Ideal_Reference1Ideal (hKernel1Ideal := hK) (hReference1Ideal := hR) := by
  intro m g m' g' _ hm
  refine ⟨fun c => Ffn1.ffnOut m c, fun c => m ((c : Thread Cert.Kernel1Ideal.nD Cert.Kernel1Ideal.τ).loc Cert.Kernel1Ideal.main_arg6),
    fun c => m ((c : Thread Cert.Kernel1Ideal.nD Cert.Kernel1Ideal.τ).loc Cert.Kernel1Ideal.main_arg7), fun c => m ((c : Thread Cert.Kernel1Ideal.nD Cert.Kernel1Ideal.τ).loc Cert.Kernel1Ideal.main_arg8),
    fun c => m ((c : Thread Cert.Kernel1Ideal.nD Cert.Kernel1Ideal.τ).loc Cert.Kernel1Ideal.main_arg9), ?_, ?_⟩
  · refine (θ_run _ _ _).mono (fun r h c => ?_) (Cert.Kernel1Ideal.Value.run_blocks m g)
    obtain ⟨h0, h1, h2, h3, h4, h⟩ := h c
    exact ⟨h0.trans (Ffn1.final10 m c), h1.trans (Ffn1.final11 m c), h2.trans (Ffn1.final12 m c), h3.trans (Ffn1.final13 m c),
      h4.trans (Ffn1.final14 m c), h⟩
  · refine (θ_run _ _ _).mono (fun r h c => ?_) (Cert.Reference1Ideal.Value.run m' g')
    obtain ⟨h0, h1, h2, h3, h4, h⟩ := h c
    obtain ⟨e0, e1, e2, e3, e4, e5, e6, e7, e8, e9⟩ := hm c
    refine ⟨?_, h1.trans e6, h2.trans e7, h3.trans e8, h4.trans e9, h⟩
    rw [h0, e0, e1, e2, e3, e4, Cert.Reference1Ideal.Read.val_main_v23_eq]
    exact funext fun i => Ffn1.ref_out _ _ _ _ _ i

end Cert.Proof
-- ==== Proof.Ffn2Step.lean ====
/-
  The second feed-forward kernel's row loops and what one grid point leaves, read at an index over the extended reals.
-/
module

public import proofs.«01_k».proof.Defs
public import proofs.«01_k».proof.Proof.Ffn
public import proofs.«01_k».proof.Proof.Gen.Kernel2Ideal.Loops
public import proofs.«01_k».proof.Proof.Gen.Kernel2Ideal.Frame
public import Idealize.ShloMosaic.Lib.Pipeline.ReadBack

@[expose] public section

set_option maxRecDepth 16384

noncomputable section

open Idealize.ShloMosaic Idealize.ShloMosaic.TcCoe Idealize.SL.Sem

namespace Cert.Ffn2

open Cert.Kernel2Ideal Cert.Kernel2Ideal.Gen Cert.Ffn

/-- One row block's stored activation is the normalisation of that block's rows. -/
theorem norm_eq (v : Vec Ideal S128x2048 .f32) (g : Vec Ideal S1x2048 .f32) (x : S128x2048.Idx) :
    k0_pay1 v g x = normed (n := 128) v g x := by
  pointwise [k0_pay1, normed]

theorem zero_eq (x : S128x2048.Idx) : k0_pay2 (F := Ideal) x = 0 := by
  pointwise [k0_pay2]

/-- One row block's finished rows: the input plus half the sum, normalised. -/
theorem fin_eq (v o : Vec Ideal S128x2048 .f32) (g : Vec Ideal S1x2048 .f32) (x : S128x2048.Idx) :
    k0_pay4 v o g x = normed (n := 128) (fun i => v i + Ideal.ofBits .f32 0x3F000000#32 * o i) g x := by
  pointwise [k0_pay4, normed]

/-- A grid point's arithmetic adds the tile's contribution to the accumulator. -/
theorem step_eq (H : Vec Ideal S1024x2048 .bf16) (wg wu : Vec Ideal S2048x512 .bf16) (wd : Vec Ideal S512x2048 .bf16)
    (acc : Vec Ideal S1024x2048 .f32) (y : S1024x2048.Idx) :
    k0_pay3 H wg wu acc wd y = acc y + ff (n := 1024) (h := 512) H wg wu wd y := by
  pointwise [k0_pay3, ff, act]

section Loops

variable (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)

theorem trips1 : k0_t1_loop.trips = 8 := by decide +kernel
theorem trips2 : k0_t2_loop.trips = 8 := by decide +kernel

/-- After `k` trips of the first loop the accumulator's first `128 k` rows hold zero. -/
theorem loop1_zero (h1 : k0_cond1 i = 1#1) (X : BufTy.Contents (Elt Ideal) arg2.view.ty)
    (X3 : BufTy.Contents (Elt Ideal) arg3.view.ty) {κ : Kind} {sp : Space} (v : View sig κ sp S1024x2048 .f32)
    (f : v.ty.Contents (Elt Ideal)) (k : ℕ) (hk : k ≤ 8) (y : S1024x2048.Idx) (hy : (y 0).val < 128 * k) :
    v.read (Elt Ideal) (v.writes (Elt Ideal) f (pb_k0_t1 (F := Ideal) 𝒱 c bd i arg2 harg2 arg3 harg3 arg4 harg4 arg5 harg5 arg6 harg6 arg7 harg7 arg8 harg8 arg9 harg9 h1 X X3 k).1) y = (0 : EReal) := by
  refine rows_done (e := .f32) (fun _ => (0 : EReal)) (fun k => (pb_k0_t1 (F := Ideal) 𝒱 c bd i arg2 harg2 arg3 harg3 arg4 harg4 arg5 harg5 arg6 harg6 arg7 harg7 arg8 harg8 arg9 harg9 h1 X X3 k).1) (fun k hk => ?_) k hk v f y hy
  have hs := pb_k0_t1_succ (F := Ideal) 𝒱 c bd i arg2 harg2 arg3 harg3 arg4 harg4 arg5 harg5 arg6 harg6 arg7 harg7 arg8 harg8 arg9 harg9 h1 X X3 ⟨k, by rw [trips1]; omega⟩
  dsimp only [tripL_k0_t1] at hs
  unfold trip_k0_t1 at hs
  exact ⟨_, _, _, k0_off1_eq ⟨k, by rw [trips1]; omega⟩, congrArg Prod.fst hs, fun x y _ _ => zero_eq x⟩

/-- After `k` trips of the first loop the activation's first `128 k` rows hold the normalised input rows. -/
theorem loop1_norm (h1 : k0_cond1 i = 1#1) (X : BufTy.Contents (Elt Ideal) arg2.view.ty)
    (X3 : BufTy.Contents (Elt Ideal) arg3.view.ty) {κ : Kind} {sp : Space} (v : View sig κ sp S1024x2048 .bf16)
    (f : v.ty.Contents (Elt Ideal)) (k : ℕ) (hk : k ≤ 8) (y : S1024x2048.Idx) (hy : (y 0).val < 128 * k) :
    v.read (Elt Ideal) (v.writes (Elt Ideal) f (pb_k0_t1 (F := Ideal) 𝒱 c bd i arg2 harg2 arg3 harg3 arg4 harg4 arg5 harg5 arg6 harg6 arg7 harg7 arg8 harg8 arg9 harg9 h1 X X3 k).2) y
      = normed (n := 1024) (arg2.view.read (Elt Ideal) X) (arg3.view.read (Elt Ideal) X3) y := by
  refine rows_done (e := .bf16) (normed (n := 1024) (arg2.view.read (Elt Ideal) X) (arg3.view.read (Elt Ideal) X3))
    (fun k => (pb_k0_t1 (F := Ideal) 𝒱 c bd i arg2 harg2 arg3 harg3 arg4 harg4 arg5 harg5 arg6 harg6 arg7 harg7 arg8 harg8 arg9 harg9 h1 X X3 k).2) (fun k hk => ?_) k hk v f y hy
  have hs := pb_k0_t1_succ (F := Ideal) 𝒱 c bd i arg2 harg2 arg3 harg3 arg4 harg4 arg5 harg5 arg6 harg6 arg7 harg7 arg8 harg8 arg9 harg9 h1 X X3 ⟨k, by rw [trips1]; omega⟩
  dsimp only [tripL_k0_t1] at hs
  unfold trip_k0_t1 at hs
  refine ⟨_, _, _, k0_off1_eq ⟨k, by rw [trips1]; omega⟩, congrArg Prod.snd hs, fun x y e0 e1 => (norm_eq _ _ x).trans ?_⟩
  exact normed_row x y (funext fun x => readAt_rows arg3.view X3 _ x x rfl (Nat.zero_add _).symm rfl) e1
    fun p q hp hq e => readAt_rows arg2.view X _ p q (k0_off1_eq _) (by rw [hp, hq]; exact e0) e

/-- The last point's loop, run over an accumulator `G`: every row ends as the input plus half the accumulator, normalised. -/
theorem loop2 (h2 : k0_cond2 i = 1#1) (X : BufTy.Contents (Elt Ideal) arg2.view.ty)
    (X7 : BufTy.Contents (Elt Ideal) arg7.view.ty)
    (G : BufTy.Contents (Elt Ideal) arg8.view.ty) (k : ℕ) (hk : k ≤ 8) (y : S1024x2048.Idx) (hy : (y 0).val < 128 * k)
    {κ : Kind} {sp : Space} (v : View sig κ sp S1024x2048 .f32) (f : v.ty.Contents (Elt Ideal)) :
    v.read (Elt Ideal) (v.writes (Elt Ideal) f (pb_k0_t2 (F := Ideal) 𝒱 c bd i arg2 harg2 arg3 harg3 arg4 harg4 arg5 harg5 arg6 harg6 arg7 harg7 arg8 harg8 arg9 harg9 h2 X X7 G k)) y
      = normed (n := 1024) (fun y => (arg2.view.read (Elt Ideal) X y : EReal)
          + Ideal.ofBits .f32 0x3F000000#32 * (arg8.view.read (Elt Ideal) G y : EReal)) (arg7.view.read (Elt Ideal) X7) y := by
  have hs : ∀ k : ℕ, (h : k < 8) → _ := fun k h =>
    pb_k0_t2_succ (F := Ideal) 𝒱 c bd i arg2 harg2 arg3 harg3 arg4 harg4 arg5 harg5 arg6 harg6 arg7 harg7 arg8 harg8 arg9 harg9 h2 X X7 G ⟨k, by rw [trips2]; omega⟩
  dsimp only [tripL_k0_t2] at hs
  unfold trip_k0_t2 at hs
  have kept := fun k hk y hy => rows_kept (e := .f32) (fun k => pb_k0_t2 (F := Ideal) 𝒱 c bd i arg2 harg2 arg3 harg3 arg4 harg4 arg5 harg5 arg6 harg6 arg7 harg7 arg8 harg8 arg9 harg9 h2 X X7 G k) rfl
    (fun k hk => ⟨_, _, _, k0_off2_eq ⟨k, by rw [trips2]; omega⟩, hs k hk⟩) k hk arg8.view G y hy
  refine rows_done (e := .f32) (normed (n := 1024) (fun y => (arg2.view.read (Elt Ideal) X y : EReal)
      + Ideal.ofBits .f32 0x3F000000#32 * (arg8.view.read (Elt Ideal) G y : EReal)) (arg7.view.read (Elt Ideal) X7))
    (fun k => pb_k0_t2 (F := Ideal) 𝒱 c bd i arg2 harg2 arg3 harg3 arg4 harg4 arg5 harg5 arg6 harg6 arg7 harg7 arg8 harg8 arg9 harg9 h2 X X7 G k)
    (fun k hk => ⟨_, _, _, k0_off2_eq ⟨k, by rw [trips2]; omega⟩, hs k hk, fun x y e0 e1 => (fin_eq _ _ _ x).trans ?_⟩) k hk v f y hy
  refine normed_row x y (funext fun x => readAt_rows arg7.view X7 _ x x rfl (Nat.zero_add _).symm rfl) e1 fun p q hp hq e => ?_
  have e0' : (q 0).val = 128 * k + (p 0).val := by rw [hp, hq]; exact e0
  exact congrArg₂ (fun a b : EReal => a + Ideal.ofBits .f32 0x3F000000#32 * b)
    (readAt_rows arg2.view X _ p q (k0_off2_eq _) e0' e)
    ((readAt_rows arg8.view _ _ p q (k0_off2_eq _) e0' e).trans (kept k hk.le q (by omega)))

end Loops

variable (m : (ℓ : Loc nD τ sig) → Buf (Elt Ideal) ℓ)

/-- The block of 1024 input rows that point `t` reads. -/
abbrev xblk (c : Dev nD) (t : Fin cfg0.N) : S1024x2048.Idx → EReal := iblk m c 0 t

/-- What the point before `t` left, output block and scratch among it. -/
abbrev prev (c : Dev nD) (t : Fin cfg0.N) := outsAt0 m c (t.val - 1) (Nat.lt_of_le_of_lt (Nat.sub_le _ _) t.isLt)

/-- A point that is neither the first nor the last of its row block adds its tile to the output block. -/
theorem outB (c : Dev nD) (t : Fin cfg0.N) (h0 : ¬ t.val % 11 = 0) (h1 : ¬ t.val % 11 = 10) (y : S1024x2048.Idx) :
    (outsAt0 m c t.val t.isLt).1 y
      = (prev m c t).1 y + ff (n := 1024) (h := 512) (prev m c t).2 (iblk m c 2 t) (iblk m c 3 t) (iblk m c 4 t) y := by
  rw [outsAt0_B m c t h0 h1]
  dsimp only
  frame_open
  frame_out
  simp only [read_unread_whole]
  exact step_eq ..

/-- Every point but the first of a row block keeps the scratch. -/
theorem scr_keep (c : Dev nD) (t : Fin cfg0.N) (h0 : ¬ t.val % 11 = 0) :
    (outsAt0 m c t.val t.isLt).2 = (prev m c t).2 := by
  by_cases h1 : t.val % 11 = 10
  · rw [outsAt0_C m c t h0 h1]
    rfl
  · rw [outsAt0_B m c t h0 h1]
    rfl

/-- The first point of a row block leaves the block's normalised rows in the scratch. -/
theorem scrA (c : Dev nD) (t : Fin cfg0.N) (h0 : t.val % 11 = 0) (y : S1024x2048.Idx) :
    (outsAt0 m c t.val t.isLt).2 y = normed (n := 1024) (iblk m c 0 t) (iblk m c 1 t) y := by
  rw [outsAt0_A m c t h0 (by omega)]
  dsimp only
  frame_open
  refine (loop1_norm (k := 8) (hk := le_rfl) (hy := (y 0).isLt) ..).trans ?_
  rw [(hs0_0 t).read_unread, (hs0_1 t).read_unread]

/-- Contents just written, loaded back whole. -/
theorem readCov_whole {κ : Kind} {sp : Space} {e : EltTy} (v : View sig κ sp S1024x2048 e)
    (L : List (View.Piece (Elt Ideal) S1024x2048 e)) (x : S1024x2048.Idx) :
    v.readCov L (Rect.unit (s := S1024x2048) ![0, 0] ![1024, 2048] inb_S1024x2048_S1024x2048_0_0).toLoadRect x
      = v.read (Elt Ideal) (v.writes (Elt Ideal) v.junk L) x :=
  readAt_rows v _ _ x x rfl (Nat.zero_add _).symm rfl

/-- The first point of a row block leaves its tile in the output block. -/
theorem outA (c : Dev nD) (t : Fin cfg0.N) (h0 : t.val % 11 = 0) (y : S1024x2048.Idx) :
    (outsAt0 m c t.val t.isLt).1 y
      = ff (n := 1024) (h := 512) (normed (n := 1024) (iblk m c 0 t) (iblk m c 1 t)) (iblk m c 2 t) (iblk m c 3 t) (iblk m c 4 t) y := by
  rw [outsAt0_A m c t h0 (by omega)]
  dsimp only
  frame_open
  frame_out
  refine (step_eq ..).trans ?_
  have h8 : Scf.trips (0#32) (Scalar.addi 0#32 8#32) 1#32 = 8 := by decide +kernel
  rw [h8, readCov_whole, loop1_zero (k := 8) (hk := le_rfl) (hy := (y 0).isLt), zero_add]
  congr 1
  funext x
  rw [readCov_whole, loop1_norm (k := 8) (hk := le_rfl) (hy := (x 0).isLt), (hs0_0 t).read_unread, (hs0_1 t).read_unread]

/-- The last point of a row block adds its tile and finishes the block: input plus half the sum, normalised. -/
theorem outC (c : Dev nD) (t : Fin cfg0.N) (h0 : ¬ t.val % 11 = 0) (h1 : t.val % 11 = 10) (y : S1024x2048.Idx) :
    (outsAt0 m c t.val t.isLt).1 y
      = normed (n := 1024) (fun y => xblk m c t y + Ideal.ofBits .f32 0x3F000000#32 * ((prev m c t).1 y
        + ff (n := 1024) (h := 512) (prev m c t).2 (iblk m c 2 t) (iblk m c 3 t) (iblk m c 4 t) y)) (iblk m c 5 t) y := by
  rw [outsAt0_C m c t h0 h1]
  dsimp only
  frame_open
  rw [View.writes_append]
  refine (loop2 (k := 8) (hk := le_rfl) (y := y) (hy := (y 0).isLt) ..).trans ?_
  rw [(hs0_0 t).read_unread, (hs0_5 t).read_unread]
  congr 1
  funext x
  refine congrArg (fun a : EReal => xblk m c t x + Ideal.ofBits .f32 0x3F000000#32 * a) ((read_whole_store ..).trans ?_)
  frame_out
  simp only [read_unread_whole]
  exact step_eq ..

end Cert.Ffn2
-- ==== Proof.Ffn2Value.lean ====
/-
  The second feed-forward kernel's result array, as a function of its arguments, over the extended reals.
-/
module

public import proofs.«01_k».proof.Proof.Ffn2Step
public import proofs.«01_k».proof.Proof.Gen.Kernel2Ideal.Value

@[expose] public section

set_option maxRecDepth 16384

noncomputable section

open Idealize.ShloMosaic Idealize.ShloMosaic.TcCoe Idealize.SL.Sem

namespace Cert.Ffn2

open Cert.Kernel2Ideal Cert.Kernel2Ideal.Gen Cert.Ffn

variable (m : (ℓ : Loc nD τ sig) → Buf (Elt Ideal) ℓ)

/-- Which block of its array each window reads or writes at point `t`. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] ∧ win0_6.index t = ![t.val / 11, 0] := by
  decide +kernel

/-- The input rows. -/
abbrev X (c : Dev nD) : S8192x2048.Idx → EReal := m ((c : Thread nD τ).loc main_arg0)
/-- The normalisation weight, as one row. -/
abbrev G (c : Dev nD) : S1x2048.Idx → EReal := fun i => m ((c : Thread nD τ).loc main_arg1) (ix1 (i 1))
/-- The gate weight. -/
abbrev Wg (c : Dev nD) : S2048x5632.Idx → EReal := m ((c : Thread nD τ).loc main_arg2)
/-- The up weight. -/
abbrev Wu (c : Dev nD) : S2048x5632.Idx → EReal := m ((c : Thread nD τ).loc main_arg3)
/-- The down weight. -/
abbrev Wd (c : Dev nD) : S5632x2048.Idx → EReal := m ((c : Thread nD τ).loc main_arg4)

theorem blk_lt (t : Fin cfg0.N) : t.val / 11 < 8 := by have := t.isLt; have : cfg0.N = 88 := N_0; omega

theorem x_at (c : Dev nD) (t : Fin cfg0.N) (y : S1024x2048.Idx) :
    xblk m c t y = X m c (ix2 (grow (t.val / 11) (blk_lt t) (y 0)) (y 1)) := by
  unfold xblk X
  blk_ext [iblk, V, idx t]

theorem g_at (c : Dev nD) (t : Fin cfg0.N) : iblk m c 1 t = G m c := by
  funext y
  unfold G
  blk_simp [iblk, idx t]
  entry_read
  pointwise
  refine congrArg (fun q => m ((c : Thread nD τ).loc main_arg1) (ix1 q)) (Fin.ext ?_)
  have e := congrFun (idx t).2.1 1
  simp [e]

theorem wg_at (c : Dev nD) (t : Fin cfg0.N) (k : Fin 2048) (f : Fin 512) :
    (iblk m c 2 t : S2048x512.Idx → EReal) (ix2 k f) = Wg m c (ix2 k ⟨512 * (t.val % 11) + f.val, by omega⟩) := by
  unfold Wg
  blk_ext [iblk, V, idx t]

theorem wu_at (c : Dev nD) (t : Fin cfg0.N) (k : Fin 2048) (f : Fin 512) :
    (iblk m c 3 t : S2048x512.Idx → EReal) (ix2 k f) = Wu m c (ix2 k ⟨512 * (t.val % 11) + f.val, by omega⟩) := by
  unfold Wu
  blk_ext [iblk, V, idx t]

theorem wd_at (c : Dev nD) (t : Fin cfg0.N) (f : Fin 512) (d : Fin 2048) :
    (iblk m c 4 t : S512x2048.Idx → EReal) (ix2 f d) = Wd m c (ix2 ⟨512 * (t.val % 11) + f.val, by omega⟩ d) := by
  unfold Wd
  blk_ext [iblk, V, idx t]

/-- The final normalisation's weight, as one row. -/
abbrev FG (c : Dev nD) : S1x2048.Idx → EReal := fun i => m ((c : Thread nD τ).loc main_arg5) (ix1 (i 1))

theorem fg_at (c : Dev nD) (t : Fin cfg0.N) : iblk m c 5 t = FG m c := by
  funext y
  unfold FG
  blk_simp [iblk, idx t]
  entry_read
  pointwise
  refine congrArg (fun q => m ((c : Thread nD τ).loc main_arg5) (ix1 q)) (Fin.ext ?_)
  have e := congrFun (idx t).2.2.2.2.2.1 1
  simp [e]

/-- The call's grid reads and leaves what the shared accumulation asks. -/
theorem grid (c : Dev nD) : Grid (X m c) (G m c) (Wg m c) (Wu m c) (Wd m c) cfg0.N (fun t => iblk m c 0 t) (fun t => iblk m c 1 t)
    (fun t => iblk m c 2 t) (fun t => iblk m c 3 t) (fun t => iblk m c 4 t) (fun n h => (outsAt0 m c n h).1)
    (fun n h => (outsAt0 m c n h).2) where
  blk := blk_lt
  x := x_at m c
  g := g_at m c
  wg := wg_at m c
  wu := wu_at m c
  wd := wd_at m c
  scr_first := scrA m c
  scr_keep := scr_keep m c
  out_first := outA m c
  out_add := outB m c

/-- The output: the input plus half the feed-forward of its normalised rows, normalised again. -/
def ffnOut (c : Dev nD) : S8192x2048.Idx → EReal := normed
  (fun i => X m c i + Ideal.ofBits .f32 0x3F000000#32 * ff (normed (X m c) (G m c)) (Wg m c) (Wu m c) (Wd m c) i) (FG m c)

/-- After the last point of a row block the output block is finished. -/
theorem out_last (c : Dev nD) (t : Fin cfg0.N) (h1 : t.val % 11 = 10) (y : S1024x2048.Idx) :
    (outsAt0 m c t.val t.isLt).1 y = ffnOut m c (ix2 (grow (t.val / 11) (blk_lt t) (y 0)) (y 1)) := by
  refine (outC m c t (by omega) h1 y).trans (normed_row y _ (fg_at m c t) rfl fun p q hp hq e => ?_)
  have hi : (ix2 (grow (t.val / 11) (blk_lt t) (p 0)) (p 1) : S8192x2048.Idx) = q := Shape.idx_ext₂
    (by rw [show q 0 = _ from hq]; exact congrArg (fun r : Fin 1024 => (grow (t.val / 11) (blk_lt t) r).val) hp) e.symm
  exact (congrArg₂ (fun a b : EReal => a + Ideal.ofBits .f32 0x3F000000#32 * b) (x_at m c t p) ((grid m c).total t h1 p)).trans
    (congrArg (fun q => X m c q + Ideal.ofBits .f32 0x3F000000#32 * ff (normed (X m c) (G m c)) (Wg m c) (Wu m c) (Wd m c) q) hi)

theorem final6 (c : Dev nD) : (dats m 0 c).arrAt 6 cfg0.N = ffnOut m c := by
  refine (dats m 0 c).arrAt_eq_of_covers 6 _ (by decide +kernel) fun t hf y => ?_
  rw [after0_6]
  refine (out_last m c t ((flush0_6 t).mp hf) _).trans ?_
  refine congrArg (ffnOut m c) ?_
  blk_ext [idx t]

end Cert.Ffn2
-- ==== Proof.Ffn2Ref.lean ====
/-
  The second feed-forward reference's result, as the same function of its arguments, and the equality of the two programs.
-/
module

public import proofs.«01_k».proof.Defs
public import proofs.«01_k».proof.Proof.Ffn2Value
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Ffn2

open Cert.Reference2Ideal Cert.Reference2Ideal.Read Cert.Ffn

variable (x : S8192x2048.Idx → EReal) (g : S2048.Idx → EReal) (wg wu : S2048x5632.Idx → EReal) (wd : S5632x2048.Idx → EReal)

theorem lidx16 (i : S8192x5632.Idx) (k : Fin 2048) : lidx_main_v16 i k = ix2 (i 0) k := Shape.idx_ext₂ rfl rfl
theorem ridx16 (i : S8192x5632.Idx) (k : Fin 2048) : ridx_main_v16 i k = ix2 k (i 1) := Shape.idx_ext₂ rfl rfl
theorem lidx18 (i : S8192x5632.Idx) (k : Fin 2048) : lidx_main_v18 i k = ix2 (i 0) k := Shape.idx_ext₂ rfl rfl
theorem ridx18 (i : S8192x5632.Idx) (k : Fin 2048) : ridx_main_v18 i k = ix2 k (i 1) := Shape.idx_ext₂ rfl rfl
theorem ridx20 (i : S8192x2048.Idx) (k : Fin 5632) : ridx_main_v20 i k = ix2 k (i 1) := Shape.idx_ext₂ rfl rfl
theorem idx4 (i : S8192x2048.Idx) (k : Fin 2048) : idx_main_v4 (idx_main_v5 (idx_main_v11 i)) k = ix2 (i 0) k := Shape.idx_ext₂ rfl rfl
theorem idx13 (i : S8192x2048.Idx) : idx_main_v13 (idx_main_v14 i) = ix1 (i 1) := funext fun a => match a with | ⟨0, _⟩ => rfl

/-- The reference's normalised rows. -/
theorem ref_norm (i : S8192x2048.Idx) :
    val_main_v15 (F := Ideal) x g i = normed (n := 8192) x (fun j => g (ix1 (j 1))) i := by
  rw [val_main_v15_apply, val_main_v12_apply, val_main_v11_apply, val_main_v10_apply, val_main_v9_apply, val_main_v7_apply,
    val_main_v5_apply, val_main_v4_apply, val_main_v6_apply, val_main_v8_apply, val_main_v14_apply, val_main_v13_apply]
  simp only [val_main_v3_apply, val_main_cst_apply, val_main_cst_0_apply, val_main_cst_1_apply]
  unfold normed
  pointwise
  simp only [idx4, idx13]
  rfl

/-- The reference's gated hidden activations. -/
theorem ref_act (i : S8192x5632.Idx) :
    val_main_v19 (F := Ideal) x g wg wu i
      = act (n := 8192) (h := 5632) (normed (n := 8192) x (fun j => g (ix1 (j 1)))) wg wu (i 0) (i 1) := by
  rw [val_main_v19_apply, val_main_v17_apply, val_main_call0_v5_apply, val_main_call0_v4_apply, val_main_call0_v3_apply,
    val_main_call0_v2_apply, val_main_call0_v1_apply, val_main_call0_v0_apply, val_main_v16_apply, val_main_v18_apply]
  simp only [val_main_call0_cst_apply, val_main_call0_cst_0_apply, ref_norm, val_main_v0_apply, val_main_v1_apply]
  unfold act Ideal.logistic
  pointwise
  simp only [lidx16, ridx16, lidx18, ridx18]
  rfl

/-- The reference's output rows. -/
theorem ref_out (i : S8192x2048.Idx) :
    val_main_v23 (F := Ideal) x g wg wu wd i
      = x i + Ideal.ofBits .f32 0x3F000000#32
        * ff (n := 8192) (h := 5632) (normed (n := 8192) x (fun j => g (ix1 (j 1)))) wg wu wd i := by
  rw [val_main_v23_apply, val_main_v22_apply, val_main_v21_apply, val_main_v20_apply]
  simp only [val_main_cst_2_apply, ref_act, val_main_v2_apply]
  unfold ff
  pointwise
  simp only [ridx20]
  rfl

theorem idx25 (i : S8192x2048.Idx) (k : Fin 2048) : idx_main_v25 (idx_main_v26 (idx_main_v32 i)) k = ix2 (i 0) k := Shape.idx_ext₂ rfl rfl
theorem idx34 (i : S8192x2048.Idx) : idx_main_v34 (idx_main_v35 i) = ix1 (i 1) := funext fun a => match a with | ⟨0, _⟩ => rfl

/-- The reference's result: those rows, normalised. -/
theorem ref_fin (fg : S2048.Idx → EReal) (i : S8192x2048.Idx) :
    val_main_v36 (F := Ideal) x g wg wu wd fg i
      = normed (n := 8192) (fun i => x i + Ideal.ofBits .f32 0x3F000000#32
        * ff (n := 8192) (h := 5632) (normed (n := 8192) x (fun j => g (ix1 (j 1)))) wg wu wd i) (fun j => fg (ix1 (j 1))) i := by
  rw [val_main_v36_apply, val_main_v33_apply, val_main_v32_apply, val_main_v31_apply, val_main_v30_apply, val_main_v28_apply,
    val_main_v26_apply, val_main_v25_apply, val_main_v27_apply, val_main_v29_apply, val_main_v35_apply, val_main_v34_apply]
  simp only [val_main_v24_apply, ref_out, val_main_cst_3_apply, val_main_cst_4_apply, val_main_cst_5_apply]
  rw [normed]
  pointwise
  simp only [idx25, idx34]
  rfl

end Cert.Ffn2

namespace Cert.Proof

/-- The second feed-forward reference runs, leaves its arguments alone and ends with every counter at zero. -/
theorem frameR2 [hR : Cert.Reference2Ideal.Facts] : quiescent_Reference2Ideal (hReference2Ideal := hR) := by
  intro m g _
  exact (θ_run _ _ _).mono (fun r h => ⟨fun c => (h c).2, sem_eq_zero_of_no_sems (by decide) r.2⟩)
    (Cert.Reference2Ideal.Value.run (F := Ideal) m g)

/-- Over the extended reals the second feed-forward kernel and its reference end with equal results. -/
theorem algebraic2 [hK : Cert.Kernel2Ideal.Facts] [hR : Cert.Reference2Ideal.Facts] :
    algebraic_Kernel2Ideal_Reference2Ideal (hKernel2Ideal := hK) (hReference2Ideal := hR) := by
  intro m g m' g' _ hm
  refine ⟨fun c => Ffn2.ffnOut m c, ?_, ?_⟩
  · refine (θ_run _ _ _).mono (fun r h c => ?_) (Cert.Kernel2Ideal.Value.run_blocks m g)
    obtain ⟨h0, h⟩ := h c
    exact ⟨h0.trans (Ffn2.final6 m c), h⟩
  · refine (θ_run _ _ _).mono (fun r h c => ?_) (Cert.Reference2Ideal.Value.run m' g')
    obtain ⟨h0, h⟩ := h c
    obtain ⟨e0, e1, e2, e3, e4, e5⟩ := hm c
    refine ⟨?_, h⟩
    rw [h0, Cert.Reference2Ideal.Read.val_main_v36_eq, e0, e1, e2, e3, e4, e5]
    exact funext fun i => Ffn2.ref_fin _ _ _ _ _ _ i

end Cert.Proof
-- ==== Proof.OutProj.lean ====
/-
  The output projection over the extended reals: the kernel's two products of 1024 columns each make up the reference's
  one product over the 2048 concatenated columns.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutProj

section Kernel

open Cert.Kernel3Ideal Cert.Kernel3Ideal.Gen

variable (m : (ℓ : Loc nD τ sig) → Buf (Elt Ideal) ℓ)

/-- Which block of its array each window reads or writes at point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] := by
  decide +kernel

/-- The residual rows. -/
abbrev X (c : Dev nD) : S8192x2048.Idx → EReal := m ((c : Thread nD τ).loc main_arg0)
/-- The first mixer's output. -/
abbrev Yh (c : Dev nD) : S8192x1024.Idx → EReal := m ((c : Thread nD τ).loc main_arg1)
/-- The second mixer's output. -/
abbrev Yg (c : Dev nD) : S8192x1024.Idx → EReal := m ((c : Thread nD τ).loc main_arg2)
/-- The projection weight. -/
abbrev W (c : Dev nD) : S2048x2048.Idx → EReal := m ((c : Thread nD τ).loc main_arg3)

/-- The residual plus the product of the two mixers' outputs, side by side, with the weight. -/
def proj (X : S8192x2048.Idx → EReal) (Yh Yg : S8192x1024.Idx → EReal) (W : S2048x2048.Idx → EReal) :
    S8192x2048.Idx → EReal := fun i =>
  X i + (∑ k : Fin 1024, Yh (ix2 (i 0) k) * W (ix2 ⟨k.val, by omega⟩ (i 1)))
    + ∑ k : Fin 1024, Yg (ix2 (i 0) k) * W (ix2 ⟨1024 + k.val, by omega⟩ (i 1))

theorem t_lt (t : Fin cfg0.N) : t.val < 16 := lt_of_lt_of_eq t.isLt (by decide)

/-- Row `r` of point `t`'s block. -/
abbrev row (t : Fin cfg0.N) (r : Fin 512) : Fin 8192 := ⟨512 * t.val + r.val, by have := t_lt t; omega⟩

theorem x_at (c : Dev nD) (t : Fin cfg0.N) (y : S512x2048.Idx) :
    (iblk m c 0 t : S512x2048.Idx → EReal) y = X m c (ix2 (row t (y 0)) (y 1)) := by
  unfold X
  blk_ext [iblk, V, idx t]

theorem yh_at (c : Dev nD) (t : Fin cfg0.N) (r : Fin 512) (k : Fin 1024) :
    (iblk m c 1 t : S512x1024.Idx → EReal) (ix2 r k) = Yh m c (ix2 (row t r) k) := by
  unfold Yh
  blk_ext [iblk, V, idx t]

theorem yg_at (c : Dev nD) (t : Fin cfg0.N) (r : Fin 512) (k : Fin 1024) :
    (iblk m c 2 t : S512x1024.Idx → EReal) (ix2 r k) = Yg m c (ix2 (row t r) k) := by
  unfold Yg
  blk_ext [iblk, V, idx t]

theorem wh_at (c : Dev nD) (t : Fin cfg0.N) (k : Fin 1024) (d : Fin 2048) :
    (iblk m c 3 t : S1024x2048.Idx → EReal) (ix2 k d) = W m c (ix2 ⟨k.val, by omega⟩ d) := by
  unfold W
  blk_simp [iblk, idx t]
  entry_read
  pointwise
  refine congrArg (m ((c : Thread nD τ).loc main_arg3)) (Shape.idx_ext₂ ?_ ?_) <;>
  simp [congrFun (idx t).2.2.2.1 0, congrFun (idx t).2.2.2.1 1]

theorem wg_at (c : Dev nD) (t : Fin cfg0.N) (k : Fin 1024) (d : Fin 2048) :
    (iblk m c 4 t : S1024x2048.Idx → EReal) (ix2 k d) = W m c (ix2 ⟨1024 + k.val, by omega⟩ d) := by
  unfold W
  blk_simp [iblk, idx t]
  entry_read
  pointwise
  refine congrArg (m ((c : Thread nD τ).loc main_arg3)) (Shape.idx_ext₂ ?_ ?_) <;>
  simp [congrFun (idx t).2.2.2.2.1 0, congrFun (idx t).2.2.2.2.1 1]

/-- One grid point's stored rows. -/
theorem pay_eq (x : Vec Ideal S512x2048 .f32) (yh yg : Vec Ideal S512x1024 .bf16) (wh wg : Vec Ideal S1024x2048 .bf16)
    (y : S512x2048.Idx) :
    k0_pay1 x yh wh yg wg y = (x y + ∑ k : Fin 1024, yh (ix2 (y 0) k) * wh (ix2 k (y 1)))
      + ∑ k : Fin 1024, yg (ix2 (y 0) k) * wg (ix2 k (y 1)) := by
  pointwise [k0_pay1]

theorem final5 (c : Dev nD) : (dats m 0 c).arrAt 5 cfg0.N = proj (X m c) (Yh m c) (Yg m c) (W m c) := by
  refine (dats m 0 c).arrAt_eq_of_covers 5 _ (by decide +kernel) fun t hf y => ?_
  rw [after0_5]
  unfold out0_5
  frame_out
  refine (pay_eq ..).trans ?_
  refine Eq.trans ?_ (congrArg (proj (X m c) (Yh m c) (Yg m c) (W m c)) (?_ : (ix2 (row t (y 0)) (y 1) : S8192x2048.Idx) = _))
  · have h1 := Finset.sum_congr (rfl : (Finset.univ : Finset (Fin 1024)) = _) fun k _ =>
      congrArg₂ (fun a b : EReal => a * b) (yh_at m c t (y 0) k) (wh_at m c t k (y 1))
    have h2 := Finset.sum_congr (rfl : (Finset.univ : Finset (Fin 1024)) = _) fun k _ =>
      congrArg₂ (fun a b : EReal => a * b) (yg_at m c t (y 0) k) (wg_at m c t k (y 1))
    exact congrArg₂ (fun a b : EReal => a + b) (congrArg₂ (fun a b : EReal => a + b) (x_at m c t y) h1) h2
  · blk_ext [idx t]

end Kernel

section Reference

open Cert.Reference3Ideal Cert.Reference3Ideal.Gen Cert.Reference3Ideal.Read

/-- The reference's result. -/
theorem ref_out (x : S8192x2048.Idx → EReal) (yh yg : S8192x1024.Idx → EReal) (w : S2048x2048.Idx → EReal)
    (i : S8192x2048.Idx) : val_main_v5 (F := Ideal) x yh yg w i = proj x yh yg w i := by
  have split : ∀ g : Fin 2048 → EReal, ∑ k : Fin 2048, g k
      = (∑ k : Fin 1024, g ⟨k.val, by omega⟩) + ∑ k : Fin 1024, g ⟨1024 + k.val, by omega⟩ := fun g => by
    rw [show (∑ k : Fin 2048, g k) = ∑ k : Fin (1024 + 1024), g k from rfl, Fin.sum_univ_add]
    rfl
  have r : ∀ k : Fin 2048, ridx_main_v4 i k = ix2 k (i 1) := fun k => Shape.idx_ext₂ rfl rfl
  have hl : ∀ k : Fin 1024, val_main_v3 (F := Ideal) yh yg (lidx_main_v4 i ⟨k.val, by omega⟩) = yh (ix2 (i 0) k) := fun k => by
    unfold val_main_v3
    exact (concatenate_pair_apply_left (s₁ := S8192x1024) (s₂ := S8192x1024) (t := S8192x2048) 1 _ _ _ (lidx_main_v4 i ⟨k.val, by omega⟩) rfl
      (ix2 (i 0) k : S8192x1024.Idx) (Fin.forall_fin_two.mpr ⟨rfl, rfl⟩)).trans rfl
  have hr : ∀ k : Fin 1024, val_main_v3 (F := Ideal) yh yg (lidx_main_v4 i ⟨1024 + k.val, by omega⟩) = yg (ix2 (i 0) k) := fun k => by
    unfold val_main_v3
    exact (concatenate_pair_apply_right (s₁ := S8192x1024) (s₂ := S8192x1024) (t := S8192x2048) 1 _ _ _ (lidx_main_v4 i ⟨1024 + k.val, by omega⟩) rfl rfl
      (ix2 (i 0) k : S8192x1024.Idx) (Fin.forall_fin_two.mpr ⟨fun _ => rfl, fun h => absurd rfl h⟩) (Nat.add_comm _ _)).trans rfl
  rw [val_main_v5_apply, val_main_v4_apply, split]
  simp only [hl, hr, r]
  exact (add_assoc _ _ _).symm

end Reference

end Cert.OutProj

namespace Cert.Proof

/-- The projection reference runs, leaves its arguments alone and ends with every counter at zero. -/
theorem frameR3 [hR : Cert.Reference3Ideal.Facts] : quiescent_Reference3Ideal (hReference3Ideal := hR) := by
  intro m g _
  exact (θ_run _ _ _).mono (fun r h => ⟨fun c => (h c).2, sem_eq_zero_of_no_sems (by decide) r.2⟩)
    (Cert.Reference3Ideal.Value.run (F := Ideal) m g)

/-- Over the extended reals the projection kernel and its reference end with equal results. -/
theorem algebraic3 [hK : Cert.Kernel3Ideal.Facts] [hR : Cert.Reference3Ideal.Facts] :
    algebraic_Kernel3Ideal_Reference3Ideal (hKernel3Ideal := hK) (hReference3Ideal := hR) := by
  intro m g m' g' _ hm
  refine ⟨fun c => OutProj.proj (OutProj.X m c) (OutProj.Yh m c) (OutProj.Yg m c) (OutProj.W m c), ?_, ?_⟩
  · refine (θ_run _ _ _).mono (fun r h c => ?_) (Cert.Kernel3Ideal.Value.run_blocks m g)
    obtain ⟨h0, h⟩ := h c
    exact ⟨h0.trans (OutProj.final5 m c), h⟩
  · refine (θ_run _ _ _).mono (fun r h c => ?_) (Cert.Reference3Ideal.Value.run m' g')
    obtain ⟨h0, h⟩ := h c
    obtain ⟨e0, e1, e2, e3⟩ := hm c
    refine ⟨?_, h⟩
    rw [h0, e0, e1, e2, e3, Cert.Reference3Ideal.Read.val_main_v5_eq]
    exact funext fun i => OutProj.ref_out _ _ _ _ i

end Cert.Proof
-- ==== Proof.InProjFrame.lean ====
/-
  The input projection as printed: it runs to the end, leaves its arguments alone and ends with every counter at zero.
  Nothing is said of what its outputs hold, so the buffers of the outputs, of the padded last weight block and of the
  scratch are carried at some contents.
-/
module

public import proofs.«01_k».proof.Defs
public import proofs.«01_k».proof.Proof.Gen.Kernel4.Frame
public import proofs.«01_k».proof.Proof.Gen.Kernel4.Skeleton
public import Idealize.ShloMosaic.Lib.Tactic

@[expose] public section

set_option maxRecDepth 16384

noncomputable section

namespace Cert.InProjFrame

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- The body on whole buffers: the three input blocks come back as they were, the other buffers at some contents. -/
theorem body_run (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x2048 .bf16) (harg4 : arg4.IsWhole) (arg5 : Memref sig .tc .vmem S128x2048 .bf16) (harg5 : arg5.IsWhole)
    (arg6 : Memref sig .tc .vmem S1024x2048 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x2048 .bf16) (E : Set ℕ) (K : PUnit → sProp 𝕄) :
    iprop(owns (c : Thread nD τ) arg2 fullShare x0 ∗ owns (c : Thread nD τ) arg3 fullShare x1 ∗ owns (c : Thread nD τ) arg4 fullShare x2
          ∗ (∃ d, owns (c : Thread nD τ) arg5 fullShare d) ∗ (∃ d, owns (c : Thread nD τ) arg6 fullShare d)
          ∗ (∃ d, owns (c : Thread nD τ) arg7 fullShare d) ∗ (∃ d, owns (c : Thread nD τ) arg8 fullShare d)
          ∗ (iprop(owns (c : Thread nD τ) arg2 fullShare x0 ∗ owns (c : Thread nD τ) arg3 fullShare x1 ∗ owns (c : Thread nD τ) arg4 fullShare x2
              ∗ (∃ d, owns (c : Thread nD τ) arg5 fullShare d) ∗ (∃ d, owns (c : Thread nD τ) arg6 fullShare d)
              ∗ (∃ d, owns (c : Thread nD τ) arg7 fullShare d) ∗ (∃ d, owns (c : Thread nD τ) arg8 fullShare d)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  by_cases hc : k0_cond1 i = 1#1
  all_goals
    sl_exec (disch := sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

variable (m : (ℓ : Loc nD τ sig) → Buf (Elt F) ℓ) (ρ : Dev nD → PrngReg)

/-- The windows whose contents nothing is said of: the last weight block and the two outputs. -/
def forgets : Fin cfg0.W → Bool
  | 3 => true | 4 => true | 5 => true | _ => false

/-- The body leaves the three input blocks in place. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => X0_2 m c t
    | 3 => Dat.unnamed 3 t
    | 4 => Dat.unnamed 4 t
    | 5 => Dat.unnamed 5 t
    | ⟨_ + 6, h⟩ => absurd h (Nat.not_lt.2 (Nat.le_add_left _ _))
  Φ _ := Pipeline.ΦA spec0 c
  q := Pipeline.shareOf spec0
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = X0_2 m c t :=
  before0_2_of m (dats m 0 c) rfl (fun _ => rfl) t d

/-- The class invariant spelled out: the scratch at some contents and the generator register at some state. -/
theorem Phi_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

theorem row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgets := fun t => by
  rw [bigSep_W0, bigSep_W0, row]
  simp only [forgets]
  rw [show (dats m 0 c).Φ t.castSucc = Pipeline.ΦA spec0 c from rfl, show (dats m 0 c).Φ t.succ = Pipeline.ΦA spec0 c from rfl, Phi_eq,
    show (dats m 0 c).owesAt () t.succ = (dats m 0 c).owesAt () t.castSucc from rfl]
  iintro ⟨⟨HS, Hg⟩, Ho, ⟨%d0, H0⟩, ⟨%d1, H1⟩, ⟨%d2, H2⟩, H3, H4, H5⟩
  rw [before_0 m c t d0, before_1 m c t d1, before_2 m c t d2]
  iapply (body_run c (grid0.coords t) _ _ _ _ _ _ _ _ _ _ _ _ _ _ (iblk m c 0 t) (iblk m c 1 t) (X0_2 m c t) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]
  · iexists X0_2 m c t
    rw [show (dats m 0 c).after 2 t = X0_2 m c t from rfl, Window.fill_cut]
    iexact H2
  isplitl [H3]; · iexact H3
  isplitl [H4]; · iexact H4
  iexact H5

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := body_obligation m) (hq := fun _ _ _ => rfl)
    (howed := fun _ _ => rfl) (V := V m) (hmain := hmain m Variants.none) (hA := fun _ _ => rfl) (hΦ := fun _ _ => rfl)

end Cert.InProjFrame

namespace Cert.Proof

open Idealize.ShloMosaic Idealize.ShloMosaic.TcCoe Idealize.SL.Sem

open Cert.Kernel4 Cert.Kernel4.Gen in
/-- The printed projection kernel runs, leaves its arguments alone and ends with every counter at zero. -/
theorem frame4 : quiescent_Kernel4 (hKernel4 := Cert.Kernel4.Gen.facts) := by
  intro m g _
  refine (θ_run _ _ _).mono (fun r h => ⟨fun c => ⟨?_, ?_, ?_⟩, h.2⟩) (Cert.InProjFrame.run_main (F := Bits) m g)
  · exact (Pipeline.RDat.FramePost.arr_in h.1 c 0 rfl).trans (V_main_arg0 m c)
  · exact ((h.1 c).2 main_arg1 (Pipeline.mem_restRefs_of main_arg1 (by decide) (by decide))).trans (V_main_arg1 m c)
  · exact (Pipeline.RDat.FramePost.arr_in h.1 c 2 rfl).trans (V_main_arg2 m c)

end Cert.Proof
-- ==== Proof.InProjStep.lean ====
/-
  One grid point of the input projection over the extended reals, on whole buffers: what each buffer holds when the body
  is done, at the first point of a block of rows and at the others.
-/
module

public import proofs.«01_k».proof.Defs
public import proofs.«01_k».proof.Proof.Gen.Kernel4Ideal.Frame
public import proofs.«01_k».proof.Proof.Gen.Kernel4Ideal.Skeleton
public import Idealize.ShloMosaic.Lib.Tactic
public import Idealize.ShloMosaic.Lib.VecWindow

@[expose] public section

set_option maxRecDepth 16384

noncomputable section

namespace Cert.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the first point of a block of rows the scratch gets the normalised rows, and both outputs are computed from them. -/
theorem body_first (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x2048 .bf16) (harg4 : arg4.IsWhole) (arg5 : Memref sig .tc .vmem S128x2048 .bf16) (harg5 : arg5.IsWhole)
    (arg6 : Memref sig .tc .vmem S1024x2048 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x2048 .bf16) (x3 : Vec F S128x2048 .bf16)
    (E : Set ℕ) (K : PUnit → sProp 𝕄)
    (hc : k0_cond1 i = 1#1) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
          ∗ (∃ d, owns (c : Thread nD τ) arg7 fullShare d) ∗ (∃ d, owns (c : Thread nD τ) arg8 fullShare d)
          ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare (k0_pay4 (k0_pay2 x0 x1) x2)
              ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [View.read_writes_full]
    refine congrArg₂ k0_pay4 ?_ (View.readAt_full ..)
    unfold body_first.sl.v3 body_first.sl.H6_1
    rw [View.readCov_full, View.readAt_full, View.readAt_full]
  isplitl [H5]
  · iexists _; isplitr
    swap; · iexact H5
    ipureintro
    rw [View.read_writes_full, View.readAt_full, View.readAt_full, View.readAt_full]
  iexists _; isplitr
  swap; · iexact H6
  ipureintro
  unfold body_first.sl.H6_1
  rw [View.read_writes_full, View.readAt_full, View.readAt_full]

set_option maxHeartbeats 1000000 in
/-- At the other points the scratch and the padded columns stay, and the output block is computed from the scratch. -/
theorem body_rest (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x2048 .bf16) (harg4 : arg4.IsWhole) (arg5 : Memref sig .tc .vmem S128x2048 .bf16) (harg5 : arg5.IsWhole)
    (arg6 : Memref sig .tc .vmem S1024x2048 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x2048 .bf16) (x3 : Vec F S128x2048 .bf16)
    (E : Set ℕ) (K : PUnit → sProp 𝕄)
    (hc : ¬ k0_cond1 i = 1#1) (s : Vec F S1024x2048 .bf16) (p : Vec F S1024x128 .f32) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
          ∗ owns (c : Thread nD τ) arg7 fullShare p ∗ owns (c : Thread nD τ) arg8 fullShare s
          ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare (k0_pay4 s x2)
              ∗ owns (c : Thread nD τ) arg7 fullShare p ∗ owns (c : Thread nD τ) arg8 fullShare s) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨H0, H1, ⟨%f2, %hf2, H2⟩, H3, ⟨%d4, %f4, -, H4⟩, H5, ⟨%f6, %hf6, H6⟩, Hk⟩
  subst hf2 hf6
  sl_exec (disch := sl_exact hc)
  sl_step
  iapply Hk
  isplitl [H0]; · iexact H0
  isplitl [H1]; · iexact H1
  isplitl [H2]
  · iexists _; isplitr; · ipureintro; rfl
    iexact H2
  isplitl [H3]; · iexact H3
  isplitl [H4]
  · iexists _; isplitr
    swap; · iexact H4
    ipureintro
    rw [View.read_writes_full]
    exact congrArg₂ k0_pay4 (View.readAt_full ..) (View.readAt_full ..)
  isplitl [H5]; · iexact H5
  iexists _; isplitr; · ipureintro; rfl
  iexact H6

end Cert.InProj
-- ==== Proof.InProjRun.lean ====
/-
  The input projection over the extended reals, run over its grid: 8 row blocks of 1024 rows, each visited by 3 points in
  turn, one for each block of 2048 output columns.
-/
module

public import proofs.«01_k».proof.Proof.Ffn
public import proofs.«01_k».proof.Proof.InProjStep

@[expose] public section

set_option maxRecDepth 16384

noncomputable section

namespace Cert.InProj

open Cert.Kernel4Ideal Cert.Kernel4Ideal.Gen Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

/-- The normalised rows. -/
theorem norm_eq (v : Vec Ideal S1024x2048 .f32) (g : Vec Ideal S1x2048 .f32) (x : S1024x2048.Idx) :
    k0_pay2 v g x = normed (n := 1024) v g x := by
  pointwise [k0_pay2, k0_pay1, normed]

/-- A block of output columns. -/
theorem dot_eq (h : Vec Ideal S1024x2048 .bf16) (w : Vec Ideal S2048x2048 .bf16) (y : S1024x2048.Idx) :
    k0_pay4 h w y = ∑ k : Fin 2048, (h (ix2 (y 0) k) : EReal) * (w (ix2 (y 1) k) : EReal) := by
  pointwise [k0_pay4]

/-- The last columns, those from column 32 on cleared. -/
theorem tail_eq (v : Vec Ideal S1024x2048 .f32) (g : Vec Ideal S1x2048 .f32) (w : Vec Ideal S128x2048 .bf16) (y : S1024x128.Idx) :
    k0_pay3 v g w y = if (y 1).val < 32 then ∑ k : Fin 2048, normed (n := 1024) v g (ix2 (y 0) k) * (w (ix2 (y 1) k) : EReal) else 0 := by
  pointwise [k0_pay3, k0_pay1, normed]
  have hy : (y 1).val < 128 := (y 1).isLt
  by_cases h : (y 1).val < 32
  · rw [if_pos h, WordCmp.select_of_eq_one (by word_cmp)]
  · rw [if_neg h, WordCmp.select_of_eq_zero (by word_cmp)]

variable (m : (ℓ : Loc nD τ sig) → Buf (Elt Ideal) ℓ) (ρ : Dev nD → PrngReg)

/-- Which block of its array each window reads or writes at point `t`. -/
theorem idx : ∀ t : Fin cfg0.N, win0_0.index t = ![t.val / 3, 0] ∧ win0_1.index t = ![0, 0]
    ∧ win0_2.index t = ![t.val % 3, 0] ∧ win0_3.index t = ![48, 0] ∧ win0_4.index t = ![t.val / 3, t.val % 3]
    ∧ win0_5.index t = ![t.val / 3, 0] := by
  decide +kernel

/-- The input rows. -/
abbrev X (c : Dev nD) : S8192x2048.Idx → EReal := m ((c : Thread nD τ).loc main_arg0)
/-- The normalisation weight, as one row. -/
abbrev G (c : Dev nD) : S1x2048.Idx → EReal := fun i => m ((c : Thread nD τ).loc main_arg1) (ix1 (i 1))
/-- The projection weight, one row for each output column. -/
abbrev W (c : Dev nD) : S6176x2048.Idx → EReal := m ((c : Thread nD τ).loc main_arg2)

theorem blk_lt (t : Fin cfg0.N) : t.val / 3 < 8 := by have := t.isLt; have : cfg0.N = 24 := N_0; omega

theorem x_at (c : Dev nD) (t : Fin cfg0.N) (y : S1024x2048.Idx) :
    (iblk m c 0 t : S1024x2048.Idx → EReal) y = X m c (ix2 (grow (t.val / 3) (blk_lt t) (y 0)) (y 1)) := by
  unfold X
  blk_ext [iblk, V, idx t]

theorem g_at (c : Dev nD) (t : Fin cfg0.N) : iblk m c 1 t = G m c := by
  funext y
  unfold G
  blk_simp [iblk, idx t]
  entry_read
  pointwise
  refine congrArg (fun q => m ((c : Thread nD τ).loc main_arg1) (ix1 q)) (Fin.ext ?_)
  have e := congrFun (idx t).2.1 1
  simp [e]

theorem w_at (c : Dev nD) (t : Fin cfg0.N) (j k : Fin 2048) :
    (X0_2 m c t : S2048x2048.Idx → EReal) (ix2 j k) = W m c (ix2 ⟨2048 * (t.val % 3) + j.val, by omega⟩ k) := by
  unfold X0_2 Window.fill
  rw [dif_pos (moved0_2 t _)]
  unfold W
  blk_ext [iblk, V, idx t]

/-- The moved rows of the last weight block, whatever lies in the others. -/
theorem wtail_at (c : Dev nD) (t : Fin cfg0.N) (d : (cfg0.win 3).block.Idx → Elt Ideal (cfg0.win 3).elt) (j : Fin 128) (k : Fin 2048) (hj : j.val < 32) :
    ((cfg0.win 3).fill (cfg0.grid.coords t) d (iblk m c 3 t) : S128x2048.Idx → EReal) (ix2 j k) = W m c (ix2 ⟨6144 + j.val, by omega⟩ k) := by
  unfold Window.fill
  have xs : ∀ t : Fin cfg0.N, (cfg0.win 3).xsize (cfg0.grid.coords t) = ![32, 2048] := by decide +kernel
  rw [dif_pos (((cfg0.win 3).moved_iff _ _).mpr (by rw [xs t]; exact Fin.forall_fin_two.mpr ⟨hj, k.isLt⟩))]
  unfold W
  blk_ext [iblk, V, idx t]

/-- Row `r` of the normalised input against row `j` of the weight. -/
def proj (c : Dev nD) (r : Fin 8192) (j : Fin 6176) : EReal :=
  ∑ k : Fin 2048, normed (X m c) (G m c) (ix2 r k) * W m c (ix2 j k)

/-- The normalised rows of the row block of point `t`. -/
def S (c : Dev nD) (t : Fin cfg0.N) : S1024x2048.Idx → EReal := fun y =>
  normed (X m c) (G m c) (ix2 (grow (t.val / 3) (blk_lt t) (y 0)) (y 1))

/-- The output block of point `t`. -/
def O (c : Dev nD) (t : Fin cfg0.N) : S1024x2048.Idx → EReal := fun y =>
  proj m c (grow (t.val / 3) (blk_lt t) (y 0)) ⟨2048 * (t.val % 3) + (y 1).val, by have : (y 1).val < 2048 := (y 1).isLt; omega⟩

/-- The last columns of the row block of point `t`. -/
def P (c : Dev nD) (t : Fin cfg0.N) : S1024x128.Idx → EReal := fun y =>
  if h : (y 1).val < 32 then proj m c (grow (t.val / 3) (blk_lt t) (y 0)) ⟨6144 + (y 1).val, by omega⟩ else 0

theorem norm_at (c : Dev nD) (t : Fin cfg0.N) (y : S1024x2048.Idx) :
    normed (n := 1024) (iblk m c 0 t) (iblk m c 1 t) y = S m c t y :=
  normed_row y _ (g_at m c t) rfl fun p q hp hq e => (x_at m c t p).trans (congrArg (X m c) (Shape.idx_ext₂
    (by rw [show q 0 = _ from hq]; exact congrArg (fun r : Fin 1024 => (grow (t.val / 3) (blk_lt t) r).val) hp) e.symm))

theorem S_eq (c : Dev nD) (t : Fin cfg0.N) : k0_pay2 (F := Ideal) (iblk m c 0 t) (iblk m c 1 t) = S m c t :=
  funext fun y => (norm_eq _ _ y).trans (norm_at m c t y)

theorem O_eq (c : Dev nD) (t : Fin cfg0.N) : k0_pay4 (F := Ideal) (S m c t) (X0_2 m c t) = O m c t :=
  funext fun y => (dot_eq _ _ y).trans (Finset.sum_congr rfl fun k _ =>
    congrArg (fun a : EReal => S m c t (ix2 (y 0) k) * a) (w_at m c t (y 1) k))

theorem P_eq (c : Dev nD) (t : Fin cfg0.N) (d : (cfg0.win 3).block.Idx → Elt Ideal (cfg0.win 3).elt) :
    k0_pay3 (F := Ideal) (iblk m c 0 t) (iblk m c 1 t) ((cfg0.win 3).fill (cfg0.grid.coords t) d (iblk m c 3 t)) = P m c t := by
  funext y
  refine (tail_eq _ _ _ y).trans ?_
  unfold P
  by_cases h : (y 1).val < 32
  · rw [if_pos h, dif_pos h]
    exact Finset.sum_congr rfl fun k _ => congrArg₂ (fun a b : EReal => a * b) (norm_at m c t (ix2 (y 0) k)) (wtail_at m c t d (y 1) k h)
  · rw [if_neg h, dif_neg h]

/-- The points of one row block share its normalised rows and its last columns. -/
theorem S_congr (c : Dev nD) (t t' : Fin cfg0.N) (h : t.val / 3 = t'.val / 3) : S m c t = S m c t' := by
  funext y; unfold S; simp only [h]
theorem P_congr (c : Dev nD) (t t' : Fin cfg0.N) (h : t.val / 3 = t'.val / 3) : P m c t = P m c t' := by
  funext y; unfold P; simp only [h]

/-- The body normalises its rows at the first point of a row block. -/
theorem first_iff (t : Fin cfg0.N) : k0_cond1 (grid0.coords t) = 1#1 ↔ t.val % 3 = 0 := by
  have e : ∀ t : Fin cfg0.N, (grid0.coords t 1).val = t.val % 3 := by decide +kernel
  have hlt : t.val % 3 < 3 := Nat.mod_lt _ (by omega)
  simp only [k0_cond1, e t]
  word_cmp

local notation "𝕄" => MT nD τ sig Unit (Elt Ideal) ℕ (UR sig nD τ) ℕ

/-- The last weight block, zero where nothing was moved. -/
def T (c : Dev nD) (t : Fin cfg0.N) : (cfg0.win 3).block.Idx → Elt Ideal (cfg0.win 3).elt :=
  (cfg0.win 3).fill (cfg0.grid.coords t) (fun _ => (0 : EReal)) (iblk m c 3 t)

/-- What the scratch holds after `n` points: anything at first, then the normalised rows of the last point's row block. -/
def PhiS (c : Dev nD) : (n : ℕ) → n ≤ cfg0.N → sProp 𝕄
  | 0, _ => Pipeline.ΦA spec0 c
  | n + 1, h => iprop(owns (c : Thread nD τ) (Memref.whole cc0_scratch0) fullShare (S m c ⟨n, h⟩) ∗ (∃ r, prngReg c r))

/-- What the body leaves in each buffer. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => X0_2 m c t
    | 3 => T m c t
    | 4 => O m c t
    | 5 => P m c t
    | ⟨_ + 6, h⟩ => absurd h (Nat.not_lt.2 (Nat.le_add_left _ _))
  Φ t := PhiS m c t.val (Nat.le_of_lt_succ t.isLt)
  q := Pipeline.shareOf spec0
  owed _ := 0

theorem after_3 (c : Dev nD) (t : Fin cfg0.N) : (dats m 0 c).after 3 t = T m c t := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = X0_2 m c t :=
  before0_2_of m (dats m 0 c) rfl (fun _ => rfl) t d
/-- The last weight block: its moved rows, over whatever the buffer held. -/
theorem before_3 (c : Dev nD) (t : Fin cfg0.N) (d) :
    (dats m 0 c).before 3 t d = (cfg0.win 3).fill (cfg0.grid.coords t) d (iblk m c 3 t) :=
  ((dats m 0 c).before_in_eq_fetched 3 rfl (fun _ => rfl)
    (fun t t' h => funext fun a => congrArg (fun n => Pipeline.Clip.of n ((cfg0.win 3).size a) (S6176x2048.size a)) (congrFun h a))
    (fun t => by rw [after_3]; unfold T; rw [Window.cut_fill]; unfold Dat.blockOf iblk; rfl) t d).trans
    (by unfold Dat.fetched Dat.blockOf iblk; rfl)
/-- The body stores the last columns at the first point of a row block only. -/
theorem idle_5 (t : Fin cfg0.N) : cfg0.idle 5 (cfg0.grid.coords t) = !decide (t.val % 3 = 0) := by
  show (!(k0_cond1 (grid0.coords t) == 1#1)) = _
  rw [Bool.beq_eq_decide_eq]
  exact congrArg (fun b => !b) (decide_eq_decide.mpr (first_iff t))
theorem kept_5 (c : Dev nD) (t : Fin cfg0.N) (h : t.val % 3 ≠ 0) (d) : (dats m 0 c).before 5 t d
    = (dats m 0 c).left 5 ⟨t.val - 1, Nat.lt_of_le_of_lt (Nat.sub_le _ _) t.isLt⟩ d := by
  have hf : (cfg0.win 5).flush ⟨t.val - 1, Nat.lt_of_le_of_lt (Nat.sub_le _ _) t.isLt⟩ = false :=
    Bool.eq_false_iff.mpr fun h => by have := (flush0_5 _).mp h; dsimp only at this; omega
  rw [(dats m 0 c).before_of_pos 5 t (by omega) ((cfg0.win 5).fetch_out rfl t), hf, if_neg Bool.false_ne_true]
/-- The last columns are still there at the points that do not compute them. -/
theorem before_5 (c : Dev nD) (t : Fin cfg0.N) (h : t.val % 3 ≠ 0) (d) : (dats m 0 c).before 5 t d = P m c t := by
  have one : ∀ t : Fin cfg0.N, t.val % 3 = 1 → (dats m 0 c).before 5 t d = P m c t := fun t h => by
    rw [kept_5 m c t (by omega)]
    unfold Dat.left
    rw [idle_5, decide_eq_true (by dsimp only; omega)]
    exact P_congr m c _ t (by dsimp only; omega)
  by_cases h1 : t.val % 3 = 1
  · exact one t h1
  rw [kept_5 m c t h]
  unfold Dat.left
  rw [idle_5, decide_eq_false (by dsimp only; omega)]
  exact ((one ⟨t.val - 1, Nat.lt_of_le_of_lt (Nat.sub_le _ _) t.isLt⟩ (show (t.val - 1) % 3 = 1 by omega)).trans (P_congr m c ⟨t.val - 1, Nat.lt_of_le_of_lt (Nat.sub_le _ _) t.isLt⟩ t (show (t.val - 1) / 3 = t.val / 3 by omega)))

/-- The scratch and the generator register, spelled out. -/
theorem Phi_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The scratch at some contents, whatever is known of it. -/
theorem PhiS_any (c : Dev nD) (n : ℕ) (h : n ≤ cfg0.N) : PhiS m c n h ⊢ Pipeline.ΦA spec0 c := by
  cases n with
  | zero => exact BIBase.Entails.rfl
  | succ n =>
    rw [Phi_eq]; unfold PhiS
    iintro ⟨H, Hg⟩
    isplitl [H]
    · iexists _; iexact H
    iexact Hg

/-- After the first point of a row block the scratch holds the block's rows. -/
theorem PhiS_rest (c : Dev nD) (t : Fin cfg0.N) (h : t.val % 3 ≠ 0) (hn : t.val ≤ cfg0.N) : PhiS m c t.val hn
    = iprop(owns (c : Thread nD τ) (Memref.whole cc0_scratch0) fullShare (S m c t) ∗ (∃ r, prngReg c r)) := by
  obtain ⟨n, ht⟩ := t
  cases n with
  | zero => exact absurd rfl h
  | succ n =>
    refine (show PhiS m c (n + 1) hn = iprop(owns (c : Thread nD τ) (Memref.whole cc0_scratch0) fullShare (S m c ⟨n, hn⟩) ∗ (∃ r, prngReg c r)) from rfl).trans ?_
    rw [S_congr m c ⟨n, by omega⟩ ⟨n + 1, ht⟩ (by dsimp only at h ⊢; omega)]

theorem row (t : Fin cfg0.N) : defs₀ (F := Ideal) .tc cfg0.body (cfg0.bodyArgs t (cfg0.slots t)) = bodyAt0 t := by
  unfold defs₀; rw [Defs.onTc_tc]

/-- The two weight blocks are left as they were found, the last one up to what lies in the rows that are not moved. -/
theorem leave_2 (c : Dev nD) (t : Fin cfg0.N) : (owns (c : Thread nD τ) (st0_2 t) fullShare (X0_2 m c t) : sProp 𝕄)
    ⊢ iprop(∃ d, owns (c : Thread nD τ) (st0_2 t) fullShare ((cfg0.win 2).fill (cfg0.grid.coords t) d
        ((cfg0.win 2).cut (cfg0.grid.coords t) ((dats m 0 c).after 2 t)))) := by
  iintro H; iexists X0_2 m c t
  rw [show (dats m 0 c).after 2 t = X0_2 m c t from rfl, Window.fill_cut]; iexact H
theorem leave_3 (c : Dev nD) (t : Fin cfg0.N) (d : (cfg0.win 3).block.Idx → Elt Ideal (cfg0.win 3).elt) :
    (owns (c : Thread nD τ) (st0_3 t) fullShare ((cfg0.win 3).fill (cfg0.grid.coords t) d (iblk m c 3 t)) : sProp 𝕄)
    ⊢ iprop(∃ d, owns (c : Thread nD τ) (st0_3 t) fullShare ((cfg0.win 3).fill (cfg0.grid.coords t) d
        ((cfg0.win 3).cut (cfg0.grid.coords t) ((dats m 0 c).after 3 t)))) := by
  rw [after_3]; unfold T; rw [Window.cut_fill]
  iintro H; iexists d; iexact H

theorem body_obligation (c : Dev nD) :
    BodyObligationLoose (dats m 0 c) (defs₀ (F := Ideal)) Variants.none () Set.univ := fun t => by
  rw [bigSep_W0, bigSep_W0, row]
  rw [show (dats m 0 c).Φ t.castSucc = PhiS m c t.val (Nat.le_of_lt t.isLt) from rfl,
    show (dats m 0 c).Φ t.succ = iprop(owns (c : Thread nD τ) (Memref.whole cc0_scratch0) fullShare (S m c t) ∗ (∃ r, prngReg c r)) from rfl,
    show (dats m 0 c).owesAt () t.succ = (dats m 0 c).owesAt () t.castSucc from rfl]
  simp only
  by_cases h0 : t.val % 3 = 0
  · rw [show idle0 5 (grid0.coords t) = false from (idle_5 t).trans (by rw [decide_eq_true h0]; rfl)]
    simp only
    iintro ⟨HΦ, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3]
    ihave HΦ' := ((PhiS_any m c t.val (Nat.le_of_lt t.isLt)).trans (Phi_eq c).le) $$ HΦ
    icases HΦ' with ⟨HS, Hg⟩
    iapply (body_first c (grid0.coords t) _ _ _ _ _ _ _ _ _ _ _ _ _ _ (iblk m c 0 t) (iblk m c 1 t) (X0_2 m c t)
      ((cfg0.win 3).fill (cfg0.grid.coords t) d3 (iblk m c 3 t)) Set.univ _ ((first_iff t).mpr h0))
    rw [S_eq, O_eq, P_eq]
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iapply (leave_2 m c t); iexact H2
    isplitl [H3]; · iapply (leave_3 m c t d3); iexact H3
    isplitl [H4]; · iexact H4
    iexact H5
  · rw [show idle0 5 (grid0.coords t) = true from (idle_5 t).trans (by rw [decide_eq_false h0]; rfl), PhiS_rest m c t h0]
    simp only
    iintro ⟨⟨HS, Hg⟩, Ho, ⟨%d0, H0⟩, ⟨%d1, H1⟩, ⟨%d2, H2⟩, ⟨%d3, H3⟩, ⟨%d4, H4⟩, ⟨%d5, H5⟩⟩
    rw [before_0 m c t d0, before_1 m c t d1, before_2 m c t d2, before_3 m c t d3, before_5 m c t h0 d5]
    iapply (body_rest c (grid0.coords t) _ _ _ _ _ _ _ _ _ _ _ _ _ _ (iblk m c 0 t) (iblk m c 1 t) (X0_2 m c t)
      ((cfg0.win 3).fill (cfg0.grid.coords t) d3 (iblk m c 3 t)) Set.univ _ (fun h => h0 ((first_iff t).mp h)) (S m c t) (P m c t))
    rw [O_eq]
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iapply (leave_2 m c t); iexact H2
    isplitl [H3]; · iapply (leave_3 m c t d3); iexact H3
    isplitl [H4]; · iexact H4
    split
    · iexists d5
      rw [before_5 m c t h0 d5]
      iexact H5
    · iexact H5

set_option backward.isDefEq.respectTransparency.types false in
theorem run_main : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := body_obligation m) (hq := fun _ _ _ => rfl) (howed := fun _ _ => rfl) (V := V m)
    (hmain := hmain m Variants.none) (hA := fun _ _ => rfl)
    (hin := fun c => BIBase.Entails.rfl) (hout := fun c => PhiS_any m c cfg0.N le_rfl)

end Cert.InProj
-- ==== Proof.InProjRef.lean ====
/-
  The input projection's two results, as functions of its arguments, the reference's, and the equality of the two programs.
-/
module

public import proofs.«01_k».proof.Defs
public import proofs.«01_k».proof.Proof.InProjFrame
public import proofs.«01_k».proof.Proof.InProjRun
public import proofs.«01_k».proof.Proof.Gen.Reference4Ideal.Run
public import proofs.«01_k».proof.Proof.Gen.Reference4Ideal.Read
public import Idealize.ShloMosaic.Lib.KernelVsHost

@[expose] public section

set_option maxRecDepth 16384

noncomputable section

open Idealize.ShloMosaic Idealize.ShloMosaic.TcCoe Idealize.SL.Sem

namespace Cert.InProj

open Cert.Ffn

section Kernel

open Cert.Kernel4Ideal Cert.Kernel4Ideal.Gen

variable (m : (ℓ : Loc nD τ sig) → Buf (Elt Ideal) ℓ)

/-- The first 6144 projected columns. -/
def out (c : Dev nD) : S8192x6144.Idx → EReal := fun i =>
  proj m c (i 0) ⟨(i 1).val, by have : (i 1).val < 6144 := (i 1).isLt; omega⟩

/-- The last 32 projected columns, and zeros after them. -/
def tail (c : Dev nD) : S8192x128.Idx → EReal := fun i =>
  if h : (i 1).val < 32 then proj m c (i 0) ⟨6144 + (i 1).val, by omega⟩ else 0

theorem final4 (c : Dev nD) : (dats m 0 c).arrAt 4 cfg0.N = out m c := by
  refine (dats m 0 c).arrAt_eq_of_covers 4 _ (by decide +kernel) fun t hf y => ?_
  have h1 : 2048 * (t.val % 3) + ((y : S1024x2048.Idx) 1).val < 6144 := by
    have : ((y : S1024x2048.Idx) 1).val < 2048 := ((y : S1024x2048.Idx) 1).isLt
    omega
  refine Eq.trans (b := out m c (ix2 (grow (t.val / 3) (blk_lt t) ((y : S1024x2048.Idx) 0))
    (⟨2048 * (t.val % 3) + ((y : S1024x2048.Idx) 1).val, h1⟩ : Fin 6144))) rfl (congrArg (out m c) ?_)
  blk_ext [idx t]

theorem final5 (c : Dev nD) : (dats m 0 c).arrAt 5 cfg0.N = tail m c := by
  refine (dats m 0 c).arrAt_eq_of_covers 5 _ (by decide +kernel) fun t hf y => ?_
  refine Eq.trans (b := tail m c (ix2 (grow (t.val / 3) (blk_lt t) ((y : S1024x128.Idx) 0)) ((y : S1024x128.Idx) 1))) rfl
    (congrArg (tail m c) ?_)
  blk_ext [idx t]

end Kernel

section Reference

open Cert.Reference4Ideal Cert.Reference4Ideal.Gen Cert.Reference4Ideal.Read

variable (x : S8192x2048.Idx → EReal) (g : S2048.Idx → EReal) (w : S6176x2048.Idx → EReal)

theorem idx1 (i : S8192x2048.Idx) (k : Fin 2048) : idx_main_v1 (idx_main_v2 (idx_main_v8 i)) k = ix2 (i 0) k := Shape.idx_ext₂ rfl rfl
theorem idx10 (i : S8192x2048.Idx) : idx_main_v10 (idx_main_v11 i) = ix1 (i 1) := funext fun a => match a with | ⟨0, _⟩ => rfl
theorem lidx15 (i : S8192x6176.Idx) (k : Fin 2048) : lidx_main_v15 i k = ix2 (i 0) k := Shape.idx_ext₂ rfl rfl
theorem ridx15 (i : S8192x6176.Idx) (k : Fin 2048) : idx_main_v14 (ridx_main_v15 i k) = ix2 (i 1) k := Shape.idx_ext₂ rfl rfl

/-- The reference's normalised rows. -/
theorem ref_norm (i : S8192x2048.Idx) :
    val_main_v12 (F := Ideal) x g i = normed (n := 8192) x (fun j => g (ix1 (j 1))) i := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply]
  unfold normed
  pointwise
  simp only [idx1, idx10]
  rfl

/-- The reference's projected columns. -/
theorem ref_proj (i : S8192x6176.Idx) : val_main_v15 (F := Ideal) x g w i
    = ∑ k : Fin 2048, normed (n := 8192) x (fun j => g (ix1 (j 1))) (ix2 (i 0) k) * w (ix2 (i 1) k) := by
  rw [val_main_v15_apply]
  refine Finset.sum_congr rfl fun k _ => ?_
  rw [ref_norm, val_main_v14_apply, val_main_v13_apply, lidx15, ridx15]
  pointwise

/-- The padding value is zero. -/
theorem ref_pad (i : S_.Idx) : val_main_call0_v0 (F := Ideal) i = (0 : EReal) := by
  rw [val_main_call0_v0_apply, val_main_c_apply]
  show (((0#32 : BitVec 32).toInt : ℝ) : EReal) = 0
  simp

/-- The reference's last columns, padded. -/
theorem ref_tail (i : S8192x128.Idx) : val_main_v18 (F := Ideal) x g w i = if h : (i 1).val < 32 then
    ∑ k : Fin 2048, normed (n := 8192) x (fun j => g (ix1 (j 1))) (ix2 (i 0) k) * w (ix2 (⟨6144 + (i 1).val, by omega⟩ : Fin 6176) k) else 0 := by
  unfold val_main_v18
  by_cases hi : (i 1).val < 32
  · rw [dif_pos hi]
    refine (pad_apply_of_inside _ _ _ _ _ _ _ i (ix2 (i 0) (⟨(i 1).val, hi⟩ : Fin 32) : S8192x32.Idx)
      (Fin.forall_fin_two.mpr ⟨by simp, by simp⟩)).trans ?_
    rw [val_main_v17_apply]
    exact ref_proj x g w _
  · rw [dif_neg hi]
    exact (pad_apply_of_not_inside _ _ _ _ _ _ _ i (1 : Fin 2) (fun h => hi (by simpa using h.2.2))).trans (ref_pad _)

end Reference

end Cert.InProj

namespace Cert.Proof

open Cert.Kernel4Ideal Cert.Kernel4Ideal.Gen in
/-- Over the extended reals the projection kernel runs, leaves its arguments alone and ends with every counter at zero. -/
theorem frameI4 : quiescent_Kernel4Ideal (hKernel4Ideal := Cert.Kernel4Ideal.Gen.facts) := by
  intro m g _
  refine (θ_run _ _ _).mono (fun r h => ⟨fun c => ⟨?_, ?_, ?_⟩, h.2⟩) (Cert.InProj.run_main m g)
  · exact ((h.1 c).1 0).trans (((InProj.dats m 0 c).arrAt_in 0 rfl _).trans (V_main_arg0 m c))
  · exact ((h.1 c).2 main_arg1 (Pipeline.mem_restRefs_of main_arg1 (by decide) (by decide))).trans (V_main_arg1 m c)
  · exact ((h.1 c).1 3).trans (((InProj.dats m 0 c).arrAt_in 3 rfl _).trans (V_main_arg2 m c))

/-- The projection reference runs, leaves its arguments alone and ends with every counter at zero. -/
theorem frameR4 [hR : Cert.Reference4Ideal.Facts] : quiescent_Reference4Ideal (hReference4Ideal := hR) := by
  intro m g _
  exact (θ_run _ _ _).mono (fun r h => ⟨fun c => (h c).2.2, sem_eq_zero_of_no_sems (by decide) r.2⟩)
    (Cert.Reference4Ideal.Value.run (F := Ideal) m g)

open Cert.Kernel4Ideal Cert.Kernel4Ideal.Gen in
/-- Over the extended reals the input projection kernel and its reference end with equal results. -/
theorem algebraic4 [hR : Cert.Reference4Ideal.Facts] :
    algebraic_Kernel4Ideal_Reference4Ideal (hKernel4Ideal := Cert.Kernel4Ideal.Gen.facts) (hReference4Ideal := hR) := by
  intro m g m' g' _ hm
  refine ⟨fun c => InProj.out m c, fun c => InProj.tail m c, ?_, ?_⟩
  · refine (θ_run _ _ _).mono (fun r h c => ⟨?_, ?_, ?_, ?_, ?_⟩) (Cert.InProj.run_main m g)
    · exact ((h.1 c).1 4).trans (InProj.final4 m c)
    · exact ((h.1 c).1 5).trans (InProj.final5 m c)
    · exact ((h.1 c).1 0).trans (((InProj.dats m 0 c).arrAt_in 0 rfl _).trans (V_main_arg0 m c))
    · exact ((h.1 c).2 main_arg1 (Pipeline.mem_restRefs_of main_arg1 (by decide) (by decide))).trans (V_main_arg1 m c)
    · exact ((h.1 c).1 3).trans (((InProj.dats m 0 c).arrAt_in 3 rfl _).trans (V_main_arg2 m c))
  · refine (θ_run _ _ _).mono (fun r h c => ?_) (Cert.Reference4Ideal.Value.run m' g')
    obtain ⟨h0, h1, h⟩ := h c
    obtain ⟨e0, e1, e2⟩ := hm c
    refine ⟨?_, ?_, h⟩
    · rw [h0, e0, e1, e2, Cert.Reference4Ideal.Read.val_main_v16_eq]
      funext i
      rw [Cert.Reference4Ideal.Read.val_main_v16_apply]
      exact InProj.ref_proj _ _ _ _
    · rw [h1, e0, e1, e2, Cert.Reference4Ideal.Read.val_main_v18_eq]
      exact funext fun i => InProj.ref_tail _ _ _ i

end Cert.Proof
-- ==== Proof.GlaFrame.lean ====
/-
  The scan kernel of the gated linear attention: it runs to the end, leaves its arguments alone and ends with every
  counter at zero. Nothing is said of what its output holds, so the output block and the nine scratch buffers are
  carried at some contents.
-/
module

public import proofs.«01_k».proof.Defs
public import proofs.«01_k».proof.Proof.Gen.Kernel5.Frame
public import proofs.«01_k».proof.Proof.Gen.Kernel5.Skeleton
public import Idealize.ShloMosaic.Lib.Tactic

@[expose] public section

set_option maxRecDepth 16384

noncomputable section

namespace Cert.GlaScan

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- Whether a grid point is the first step of its sequence. -/
abbrev atStart (i : grid0.Coords) : BitVec 1 :=
  Scalar.cmpi .ne (Scalar.extui (Scalar.cmpi .eq (BitVec.ofNat 32 (i 1).val) 0#32) : BitVec 32) 0#32

/-- How the five branches of the body stand at a grid point: the state is cleared in the first step of a sequence, the
    first half of the steps goes one way at the end, the second half the other way. -/
def Branches (i : grid0.Coords) : Prop :=
  (atStart i = 1#1 ∧ k0_cond2 i = 1#1 ∧ ¬ k0_cond3 i = 1#1 ∧ k0_cond4 i = 1#1 ∧ ¬ k0_cond5 i = 1#1)
  ∨ (¬ atStart i = 1#1 ∧ k0_cond2 i = 1#1 ∧ ¬ k0_cond3 i = 1#1 ∧ k0_cond4 i = 1#1 ∧ ¬ k0_cond5 i = 1#1)
  ∨ (¬ atStart i = 1#1 ∧ ¬ k0_cond2 i = 1#1 ∧ k0_cond3 i = 1#1 ∧ ¬ k0_cond4 i = 1#1 ∧ k0_cond5 i = 1#1)

theorem branches (t : Fin cfg0.N) : Branches (grid0.coords t) := by
  revert t; unfold Branches; decide

set_option maxHeartbeats 20000000 in
set_option sl_exec.squeezeSlice true in
/-- The body on whole buffers: the thirteen input blocks come back as they were, the other buffers at some contents. -/
theorem body_run (c : Dev nD) (i : grid0.Coords) (hi : Branches i)
    (arg2 : Memref sig .tc .vmem S1024x128 .f32) (harg2 : arg2.IsWhole) (arg3 : Memref sig .tc .vmem S1024x128 .f32) (harg3 : arg3.IsWhole)
    (arg4 : Memref sig .tc .vmem S1024x256 .f32) (harg4 : arg4.IsWhole) (arg5 : Memref sig .tc .vmem S1024x128 .f32) (harg5 : arg5.IsWhole)
    (arg6 : Memref sig .tc .vmem S1024x256 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S1024x256 .f32) (harg9 : arg9.IsWhole)
    (arg10 : Memref sig .tc .vmem S1024x128 .f32) (harg10 : arg10.IsWhole) (arg11 : Memref sig .tc .vmem S1024x256 .f32) (harg11 : arg11.IsWhole)
    (arg12 : Memref sig .tc .vmem S2x384x128 .bf16) (harg12 : arg12.IsWhole) (arg13 : Memref sig .tc .vmem S2x1x128 .f32) (harg13 : arg13.IsWhole)
    (arg14 : Memref sig .tc .vmem S1x256 .f32) (harg14 : arg14.IsWhole) (arg15 : Memref sig .tc .vmem S8192x256 .bf16) (harg15 : arg15.IsWhole)
    (arg16 : Memref sig .tc .vmem S2x256x128 .f32) (harg16 : arg16.IsWhole) (arg17 : Memref sig .tc .vmem S2x1024x384 .bf16) (harg17 : arg17.IsWhole)
    (arg18 : Memref sig .tc .vmem S2x1024x128 .f32) (harg18 : arg18.IsWhole) (arg19 : Memref sig .tc .vmem S2x3x1024x128 .bf16) (harg19 : arg19.IsWhole)
    (arg20 : Memref sig .tc .vmem S2x1024x256 .bf16) (harg20 : arg20.IsWhole) (arg21 : Memref sig .tc .vmem S2x1024x64 .bf16) (harg21 : arg21.IsWhole)
    (arg22 : Memref sig .tc .vmem S2x4096x128 .f32) (harg22 : arg22.IsWhole) (arg23 : Memref sig .tc .vmem S2x1024x256 .f32) (harg23 : arg23.IsWhole)
    (arg24 : Memref sig .tc .vmem S8192x256 .f32) (harg24 : arg24.IsWhole)
    (x0 : Vec F S1024x128 .f32) (x1 : Vec F S1024x128 .f32) (x2 : Vec F S1024x256 .f32) (x3 : Vec F S1024x128 .f32) (x4 : Vec F S1024x256 .f32)
    (x5 : Vec F S1024x128 .f32) (x6 : Vec F S1024x128 .f32) (x7 : Vec F S1024x256 .f32) (x8 : Vec F S1024x128 .f32) (x9 : Vec F S1024x256 .f32)
    (x10 : Vec F S2x384x128 .bf16) (x11 : Vec F S2x1x128 .f32) (x12 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare x9 ∗ owns (c : Thread nD τ) arg12 fullShare x10 ∗ owns (c : Thread nD τ) arg13 fullShare x11 ∗
          owns (c : Thread nD τ) arg14 fullShare x12 ∗ (∃ d, owns (c : Thread nD τ) arg15 fullShare d) ∗ (∃ d, owns (c : Thread nD τ) arg16 fullShare d) ∗
          (∃ d, owns (c : Thread nD τ) arg17 fullShare d) ∗ (∃ d, owns (c : Thread nD τ) arg18 fullShare d) ∗ (∃ d, owns (c : Thread nD τ) arg19 fullShare d) ∗
          (∃ d, owns (c : Thread nD τ) arg20 fullShare d) ∗ (∃ d, owns (c : Thread nD τ) arg21 fullShare d) ∗ (∃ d, owns (c : Thread nD τ) arg22 fullShare d) ∗
          (∃ d, owns (c : Thread nD τ) arg23 fullShare d) ∗ (∃ d, owns (c : Thread nD τ) arg24 fullShare d)
          ∗ (iprop(owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare x9 ∗ owns (c : Thread nD τ) arg12 fullShare x10 ∗ owns (c : Thread nD τ) arg13 fullShare x11 ∗
          owns (c : Thread nD τ) arg14 fullShare x12 ∗ (∃ d, owns (c : Thread nD τ) arg15 fullShare d) ∗ (∃ d, owns (c : Thread nD τ) arg16 fullShare d) ∗
          (∃ d, owns (c : Thread nD τ) arg17 fullShare d) ∗ (∃ d, owns (c : Thread nD τ) arg18 fullShare d) ∗ (∃ d, owns (c : Thread nD τ) arg19 fullShare d) ∗
          (∃ d, owns (c : Thread nD τ) arg20 fullShare d) ∗ (∃ d, owns (c : Thread nD τ) arg21 fullShare d) ∗ (∃ d, owns (c : Thread nD τ) arg22 fullShare d) ∗
          (∃ d, owns (c : Thread nD τ) arg23 fullShare d) ∗ (∃ d, owns (c : Thread nD τ) arg24 fullShare d)) -∗ K ⟨⟩))
      ⊢ wp frame (wpE (defs₀ (F := F)) Variants.none c none) E
        (cc0_gla i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22 harg22 arg23 harg23 arg24 harg24) K := by
  simp only [cc0_gla_eq_skeleton]; unfold cc0_gla_skel
  simp only [k0_part144_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton, k0_part59_eq_skeleton,
    k0_part60_eq_skeleton, k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton, k0_part71_eq_skeleton,
    k0_part72_eq_skeleton, k0_part73_eq_skeleton, k0_part74_eq_skeleton, k0_part75_eq_skeleton, k0_part76_eq_skeleton, k0_part77_eq_skeleton,
    k0_part78_eq_skeleton, k0_part79_eq_skeleton, k0_part80_eq_skeleton, k0_part81_eq_skeleton, k0_part82_eq_skeleton, k0_part83_eq_skeleton,
    k0_part84_eq_skeleton, k0_part85_eq_skeleton, k0_part86_eq_skeleton, k0_part87_eq_skeleton, k0_part88_eq_skeleton, k0_part89_eq_skeleton,
    k0_part90_eq_skeleton, k0_part91_eq_skeleton, k0_part92_eq_skeleton, k0_part93_eq_skeleton, k0_part94_eq_skeleton, k0_part95_eq_skeleton,
    k0_part96_eq_skeleton, k0_part97_eq_skeleton, k0_part98_eq_skeleton, k0_part99_eq_skeleton, k0_part100_eq_skeleton, k0_part101_eq_skeleton,
    k0_part102_eq_skeleton, k0_part103_eq_skeleton, k0_part104_eq_skeleton, k0_part105_eq_skeleton, k0_part106_eq_skeleton, k0_part107_eq_skeleton,
    k0_part108_eq_skeleton, k0_part109_eq_skeleton, k0_part110_eq_skeleton, k0_part111_eq_skeleton, k0_part112_eq_skeleton, k0_part113_eq_skeleton,
    k0_part114_eq_skeleton, k0_part115_eq_skeleton, k0_part116_eq_skeleton, k0_part117_eq_skeleton, k0_part118_eq_skeleton, k0_part119_eq_skeleton,
    k0_part120_eq_skeleton, k0_part121_eq_skeleton, k0_part122_eq_skeleton, k0_part123_eq_skeleton, k0_part124_eq_skeleton, k0_part125_eq_skeleton,
    k0_part126_eq_skeleton, k0_part127_eq_skeleton, k0_part128_eq_skeleton, k0_part129_eq_skeleton, k0_part130_eq_skeleton, k0_part131_eq_skeleton,
    k0_part132_eq_skeleton, k0_part133_eq_skeleton, k0_part134_eq_skeleton, k0_part135_eq_skeleton, k0_part136_eq_skeleton, k0_part137_eq_skeleton,
    k0_part138_eq_skeleton, k0_part139_eq_skeleton, k0_part140_eq_skeleton, k0_part141_eq_skeleton, k0_part142_eq_skeleton, k0_part143_eq_skeleton,
    k0_part145_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩,
    ⟨%d15, %f15, -, H15⟩, ⟨%d16, %f16, -, H16⟩, ⟨%d17, %f17, -, H17⟩, ⟨%d18, %f18, -, H18⟩, ⟨%d19, %f19, -, H19⟩, ⟨%d20, %f20, -, H20⟩,
    ⟨%d21, %f21, -, H21⟩, ⟨%d22, %f22, -, H22⟩, Hk⟩
  rcases hi with ⟨h1, h2, h3, h4, h5⟩ | ⟨h1, h2, h3, h4, h5⟩ | ⟨h1, h2, h3, h4, h5⟩
  all_goals
    sl_exec (disch := first | sl_exact h1 | sl_exact h2 | sl_exact h3 | sl_exact h4 | sl_exact h5)
    sl_step
    iapply Hk
    isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; isplitr; (· ipureintro; exact hf9); iexact H9
    isplitl [H10]; · iexists _; isplitr; (· ipureintro; exact hf10); iexact H10
    isplitl [H11]; · iexists _; isplitr; (· ipureintro; exact hf11); iexact H11
    isplitl [H12]; · iexists _; isplitr; (· ipureintro; exact hf12); iexact H12
    isplitl [H13]; · iexists _; iexists _; isplitr; (swap; · iexact H13); ipureintro; rfl
    isplitl [H14]; · iexists _; iexists _; isplitr; (swap; · iexact H14); ipureintro; rfl
    isplitl [H15]; · iexists _; iexists _; isplitr; (swap; · iexact H15); ipureintro; rfl
    isplitl [H16]; · iexists _; iexists _; isplitr; (swap; · iexact H16); ipureintro; rfl
    isplitl [H17]; · iexists _; iexists _; isplitr; (swap; · iexact H17); ipureintro; rfl
    isplitl [H18]; · iexists _; iexists _; isplitr; (swap; · iexact H18); ipureintro; rfl
    isplitl [H19]; · iexists _; iexists _; isplitr; (swap; · iexact H19); ipureintro; rfl
    isplitl [H20]; · iexists _; iexists _; isplitr; (swap; · iexact H20); ipureintro; rfl
    isplitl [H21]; · iexists _; iexists _; isplitr; (swap; · iexact H21); ipureintro; rfl
    iexists _; iexists _; isplitr; (swap; · iexact H22); ipureintro; rfl
variable (m : (ℓ : Loc nD τ sig) → Buf (Elt F) ℓ) (ρ : Dev nD → PrngReg)

/-- The window whose contents nothing is said of: the output. -/
def forgets : Fin cfg0.W → Bool
  | 13 => true | _ => false

/-- The body leaves the thirteen input blocks in place. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => Dat.unnamed 13 t
    | ⟨_ + 14, h⟩ => absurd h (Nat.not_lt.2 (Nat.le_add_left _ _))
  Φ _ := Pipeline.ΦA spec0 c
  q := Pipeline.shareOf spec0
  owed _ := 0

/-- The class invariant spelled out: the scratches at some contents and the generator register at some state. -/
theorem Phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗
        (∃ d, owns (c : Thread nD τ) (Memref.whole cc0_scratch2) fullShare d) ∗ (∃ d, owns (c : Thread nD τ) (Memref.whole cc0_scratch3) fullShare d) ∗
        (∃ d, owns (c : Thread nD τ) (Memref.whole cc0_scratch4) fullShare d) ∗ (∃ d, owns (c : Thread nD τ) (Memref.whole cc0_scratch5) fullShare d) ∗
        (∃ d, owns (c : Thread nD τ) (Memref.whole cc0_scratch6) fullShare d) ∗ (∃ d, owns (c : Thread nD τ) (Memref.whole cc0_scratch7) fullShare d) ∗
        (∃ d, owns (c : Thread nD τ) (Memref.whole cc0_scratch8) fullShare d))
      ∗ (∃ r, prngReg c r)) := by
  unfold Pipeline.ΦA; rw [scopedRest0_eq]; simp only [owns_whole]

theorem row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) :
    BodyObligationLoose (dats (F := F) m 0 c) (defs₀ (F := F)) Variants.none () Set.univ forgets := fun t => by
  rw [bigSep_W0, bigSep_W0, row]
  simp only [forgets]
  rw [show (dats m 0 c).Φ t.castSucc = Pipeline.ΦA spec0 c from rfl, show (dats m 0 c).Φ t.succ = Pipeline.ΦA spec0 c from rfl, Phi_eq,
    show (dats m 0 c).owesAt () t.succ = (dats m 0 c).owesAt () t.castSucc from rfl]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7,
    before0_8_of m (dats m 0 c) rfl (fun _ => rfl) t d8, before0_9_of m (dats m 0 c) rfl (fun _ => rfl) t d9,
    before0_10_of m (dats m 0 c) rfl (fun _ => rfl) t d10, before0_11_of m (dats m 0 c) rfl (fun _ => rfl) t d11,
    before0_12_of m (dats m 0 c) rfl (fun _ => rfl) t d12]
  iapply (body_run c (grid0.coords t) (branches t) _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := body_obligation m) (hq := fun _ _ _ => rfl)
    (howed := fun _ _ => rfl) (V := V m) (hmain := hmain m Variants.none) (hA := fun _ _ => rfl) (hΦ := fun _ _ => rfl)

/-- At any format of numbers: the scan kernel runs, leaves its arguments alone and ends with every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ⟨?_, ?_, ?_, ?_, ?_, ?_, ?_⟩, h.2⟩) (run_main m ρ)
  · exact (Pipeline.RDat.FramePost.arr_in h.1 c 9 rfl).trans (V_main_arg0 m c)
  · exact (Pipeline.RDat.FramePost.arr_in h.1 c 8 rfl).trans (V_main_arg1 m c)
  · exact ((h.1 c).2 main_arg2 (Pipeline.mem_restRefs_of main_arg2 (by decide) (by decide))).trans (V_main_arg2 m c)
  · exact ((h.1 c).2 main_arg3 (Pipeline.mem_restRefs_of main_arg3 (by decide) (by decide))).trans (V_main_arg3 m c)
  · exact ((h.1 c).2 main_arg4 (Pipeline.mem_restRefs_of main_arg4 (by decide) (by decide))).trans (V_main_arg4 m c)
  · exact ((h.1 c).2 main_arg5 (Pipeline.mem_restRefs_of main_arg5 (by decide) (by decide))).trans (V_main_arg5 m c)
  · exact ((h.1 c).2 main_arg6 (Pipeline.mem_restRefs_of main_arg6 (by decide) (by decide))).trans (V_main_arg6 m c)

end Cert.GlaScan

namespace Cert.Proof

open Idealize.ShloMosaic Idealize.ShloMosaic.TcCoe Idealize.SL.Sem

/-- The scan kernel as printed runs, leaves its arguments alone and ends with every counter at zero. -/
theorem frame5 : quiescent_Kernel5 (hKernel5 := Cert.Kernel5.Gen.facts) :=
  fun m g _ => Cert.GlaScan.quiet (F := Bits) m g

end Cert.Proof
-- ==== Proof.GlaFrameIdeal.lean ====
/-
  The scan kernel read over the real numbers is the printed program, so it runs as that program does.
-/
module

public import proofs.«01_k».proof.Proof.GlaFrame
public import proofs.«01_k».proof.Proof.Gen.Kernel5Ideal.Frame

@[expose] public section

set_option maxRecDepth 65536

noncomputable section

namespace Cert.GlaScanIdeal

open Idealize.ShloMosaic Idealize.ShloMosaic.TcCoe Idealize.SL.Sem

variable (F : FTy → Type) [FloatOps F]

set_option maxHeartbeats 8000000 in
set_option backward.isDefEq.respectTransparency.types false in
/-- The bodies agree label by label. -/
theorem bodies_eq : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg (Defs.onTc (τ := Cert.Kernel5.τ)) ?_
  funext l a
  match l with
  | 0 => rfl

set_option backward.isDefEq.respectTransparency.types false in
/-- So do the tables with the pipeline's own labels. -/
theorem tables_eq : @Cert.Kernel5.defs F _ Cert.Kernel5.Gen.facts = @Cert.Kernel5Ideal.defs F _ Cert.Kernel5Ideal.Gen.facts :=
  congrArg (Pipeline.defs (Cert.Kernel5.pcfgs (F := F))) (bodies_eq F)

end Cert.GlaScanIdeal

namespace Cert.Proof

open Idealize.ShloMosaic Idealize.ShloMosaic.TcCoe Idealize.SL.Sem

set_option maxHeartbeats 8000000 in
set_option backward.isDefEq.respectTransparency.types false in
/-- The scan kernel over the real numbers runs, leaves its arguments alone and ends with every counter at zero. -/
theorem frame5I : quiescent_Kernel5Ideal (hKernel5Ideal := Cert.Kernel5Ideal.Gen.facts) := fun m g _ =>
  Eq.mp (congrArg (fun D => θ_run D (onTc (τ := Cert.Kernel5.τ) (@Cert.Kernel5.main Ideal _ Cert.Kernel5.Gen.facts)) ⟨m, fun _ => 0, g⟩ _)
    (Cert.GlaScanIdeal.tables_eq Ideal)) (Cert.GlaScan.quiet (F := Ideal) m g)

end Cert.Proof
-- ==== Proof.FiltRun.lean ====
/-
  The call that makes the hidden layers of the filter and casts four weights: what it leaves in each buffer at each
  grid point, and that it runs to the end. Stated once for any format of numbers.
-/
module

public import proofs.«01_k».proof.Defs
public import proofs.«01_k».proof.Proof.Gen.Kernel6.Frame
public import proofs.«01_k».proof.Proof.Gen.Kernel6.Skeleton
public import Idealize.ShloMosaic.Lib.Tactic
public import Idealize.ShloMosaic.Lib.VecWindow

@[expose] public section

set_option maxRecDepth 16384

noncomputable section

namespace Cert.Filt

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 2000000 in
/-- The body on whole buffers: the inputs stay, each output holds its values computed from them. -/
theorem body_run (c : Dev nD) (i : grid0.Coords)
    (arg1 : Memref sig .tc .vmem S512x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S400x2048 .f32) (harg11 : arg11.IsWhole) (arg12 : Memref sig .tc .vmem S128x5632 .f32) (harg12 : arg12.IsWhole)
    (arg13 : Memref sig .tc .vmem S128x5632 .f32) (harg13 : arg13.IsWhole) (arg14 : Memref sig .tc .vmem S352x2048 .f32) (harg14 : arg14.IsWhole)
    (arg15 : Memref sig .tc .vmem S512x384 .bf16) (harg15 : arg15.IsWhole) (arg16 : Memref sig .tc .vmem S400x2048 .bf16) (harg16 : arg16.IsWhole)
    (arg17 : Memref sig .tc .vmem S128x5632 .bf16) (harg17 : arg17.IsWhole) (arg18 : Memref sig .tc .vmem S128x5632 .bf16) (harg18 : arg18.IsWhole)
    (arg19 : Memref sig .tc .vmem S352x2048 .bf16) (harg19 : arg19.IsWhole)
    (x0 : Vec F S512x128 .f32) (x1 : Vec F S128x128 .f32) (x2 : Vec F S1x128 .f32) (x3 : Vec F S1x128 .f32) (x4 : Vec F S128x128 .f32)
    (x5 : Vec F S1x128 .f32) (x6 : Vec F S1x128 .f32) (x7 : Vec F S128x128 .f32) (x8 : Vec F S1x128 .f32) (x9 : Vec F S1x128 .f32)
    (x10 : Vec F S400x2048 .f32) (x11 : Vec F S128x5632 .f32) (x12 : Vec F S128x5632 .f32) (x13 : Vec F S352x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare x7 ∗ owns (c : Thread nD τ) arg9 fullShare x8 ∗
          owns (c : Thread nD τ) arg10 fullShare x9 ∗ owns (c : Thread nD τ) arg11 fullShare x10 ∗ owns (c : Thread nD τ) arg12 fullShare x11 ∗
          owns (c : Thread nD τ) arg13 fullShare x12 ∗ owns (c : Thread nD τ) arg14 fullShare x13 ∗ (∃ d, owns (c : Thread nD τ) arg15 fullShare d) ∗
          (∃ d, owns (c : Thread nD τ) arg16 fullShare d) ∗ (∃ d, owns (c : Thread nD τ) arg17 fullShare d) ∗ (∃ d, owns (c : Thread nD τ) arg18 fullShare d) ∗
          (∃ d, owns (c : Thread nD τ) arg19 fullShare d)
          ∗ (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗ owns (c : Thread nD τ) arg14 fullShare x13 ∗
            owns (c : Thread nD τ) arg15 fullShare (k0_pay5 x3 x0 x1 x2 x6 x4 x5 x9 x7 x8) ∗ owns (c : Thread nD τ) arg16 fullShare (k0_pay1 x10) ∗
            owns (c : Thread nD τ) arg17 fullShare (k0_pay2 x11) ∗ owns (c : Thread nD τ) arg18 fullShare (k0_pay3 x12) ∗
            owns (c : Thread nD τ) arg19 fullShare (k0_pay4 x13)) -∗ K ⟨⟩))
      ⊢ wp frame (wpE (defs₀ (F := F)) Variants.none c none) E
        (cc0_filt_mlp i arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19) K := by
  simp only [cc0_filt_mlp_eq_skeleton]; unfold cc0_filt_mlp_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩,
    ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13
  sl_exec
  sl_step
  iapply Hk
  isplitl [H0]; · iexists _; isplitr; (· ipureintro; rfl); iexact H0
  isplitl [H1]; · iexists _; isplitr; (· ipureintro; rfl); iexact H1
  isplitl [H2]; · iexists _; isplitr; (· ipureintro; rfl); iexact H2
  isplitl [H3]; · iexists _; isplitr; (· ipureintro; rfl); iexact H3
  isplitl [H4]; · iexists _; isplitr; (· ipureintro; rfl); iexact H4
  isplitl [H5]; · iexists _; isplitr; (· ipureintro; rfl); iexact H5
  isplitl [H6]; · iexists _; isplitr; (· ipureintro; rfl); iexact H6
  isplitl [H7]; · iexists _; isplitr; (· ipureintro; rfl); iexact H7
  isplitl [H8]; · iexists _; isplitr; (· ipureintro; rfl); iexact H8
  isplitl [H9]; · iexists _; isplitr; (· ipureintro; rfl); iexact H9
  isplitl [H10]; · iexists _; isplitr; (· ipureintro; rfl); iexact H10
  isplitl [H11]; · iexists _; isplitr; (· ipureintro; rfl); iexact H11
  isplitl [H12]; · iexists _; isplitr; (· ipureintro; rfl); iexact H12
  isplitl [H13]; · iexists _; isplitr; (· ipureintro; rfl); iexact H13
  isplitl [H14]
  · iexists _; isplitr; swap; · iexact H14
    ipureintro; unfold body_run.sl.r; rw [View.read_writes_full, View.readAt_full, View.readAt_full, View.readAt_full, View.readAt_full, View.readAt_full, View.readAt_full, View.readAt_full, View.readAt_full, View.readAt_full, View.readAt_full]
  isplitl [H15]
  · iexists _; isplitr; swap; · iexact H15
    ipureintro; rw [View.read_writes_full, View.readAt_full]
  isplitl [H16]
  · iexists _; isplitr; swap; · iexact H16
    ipureintro; rw [View.read_writes_full, View.readAt_full]
  isplitl [H17]
  · iexists _; isplitr; swap; · iexact H17
    ipureintro; rw [View.read_writes_full, View.readAt_full]
  iexists _; isplitr; swap; · iexact H18
  ipureintro; rw [View.read_writes_full, View.readAt_full]

variable (m : (ℓ : Loc nD τ sig) → Buf (Elt F) ℓ) (ρ : Dev nD → PrngReg)

/-- The block of the transposed projection weight: its rows in the array, anything in the rows past its end. -/
def src (c : Dev nD) (t : Fin cfg0.N) (d : S400x2048.Idx → Elt F .f32) : S400x2048.Idx → Elt F .f32 :=
  (cfg0.win 10).fill (cfg0.grid.coords t) d (iblk m c 10 t)

/-- The hidden layers of the rows of point `t`. -/
def hid3 (c : Dev nD) (t : Fin cfg0.N) : S512x384.Idx → Elt F .bf16 :=
  k0_pay5 (iblk m c 3 t) (iblk m c 0 t) (iblk m c 1 t) (iblk m c 2 t) (iblk m c 6 t) (iblk m c 4 t) (iblk m c 5 t)
    (iblk m c 9 t) (iblk m c 7 t) (iblk m c 8 t)

/-- What the body leaves in each buffer. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => src m c t (Dat.unnamed 10 t)
    | 11 => iblk m c 11 t
    | 12 => iblk m c 12 t
    | 13 => iblk m c 13 t
    | 14 => hid3 m c t
    | 15 => k0_pay1 (src m c t (Dat.unnamed 10 t))
    | 16 => k0_pay2 (iblk m c 11 t)
    | 17 => k0_pay3 (iblk m c 12 t)
    | 18 => k0_pay4 (iblk m c 13 t)
    | ⟨_ + 19, h⟩ => absurd h (Nat.not_lt.2 (Nat.le_add_left _ _))
  Φ _ := Pipeline.ΦA spec0 c
  q _ := fullShare
  owed _ := 0

theorem after_10 (c : Dev nD) (t : Fin cfg0.N) : (dats m 0 c).after 10 t = src m c t (Dat.unnamed 10 t) := by dsimp only [dats]
theorem after_15 (c : Dev nD) (t : Fin cfg0.N) : (dats m 0 c).after 15 t = k0_pay1 (src m c t (Dat.unnamed 10 t)) := by dsimp only [dats]

theorem before_10 (c : Dev nD) (t : Fin cfg0.N) (d) : (dats m 0 c).before 10 t d = src m c t d :=
  ((dats m 0 c).before_in_eq_fetched 10 rfl (fun _ => rfl)
    (fun t t' h => funext fun a => congrArg (fun n => Pipeline.Clip.of n ((cfg0.win 10).size a) (S6176x2048.size a)) (congrFun h a))
    (fun t => by rw [after_10]; unfold src; rw [Window.cut_fill]; unfold Dat.blockOf iblk; rfl) t d).trans
    (by unfold src Dat.fetched Dat.blockOf iblk; rfl)

theorem row (t : Fin cfg0.N) : defs₀ (F := F) .tc cfg0.body (cfg0.bodyArgs t (cfg0.slots t)) = bodyAt0 t := by
  unfold defs₀; rw [Defs.onTc_tc]

/-- The weight block is left as it was found, up to what lies in the rows that are not moved. -/
theorem leave_10 (c : Dev nD) (t : Fin cfg0.N) (d : S400x2048.Idx → Elt F .f32) :
    (owns (c : Thread nD τ) (st0_10 t) fullShare (src m c t d) : sProp 𝕄)
    ⊢ iprop(∃ d, owns (c : Thread nD τ) (st0_10 t) fullShare ((cfg0.win 10).fill (cfg0.grid.coords t) d
        ((cfg0.win 10).cut (cfg0.grid.coords t) ((dats m 0 c).after 10 t)))) := by
  rw [after_10]; unfold src; rw [Window.cut_fill]
  iintro H; iexists d; iexact H

/-- A cast block agrees with the cast of the named block on the rows that are moved. -/
theorem cast_src (c : Dev nD) (t : Fin cfg0.N) (d d' : S400x2048.Idx → Elt F .f32) :
    (k0_pay1 (src m c t d) : S400x2048.Idx → Elt F .bf16) = (cfg0.win 15).fill (cfg0.grid.coords t) (k0_pay1 (src m c t d))
      ((cfg0.win 15).cut (cfg0.grid.coords t) (k0_pay1 (src m c t d'))) := by
  funext y
  unfold Window.fill
  by_cases h : (cfg0.win 15).moved (cfg0.grid.coords t) y = true
  · rw [dif_pos h]
    have h' : (cfg0.win 10).moved (cfg0.grid.coords t) y = true := h
    show FloatOps.truncf .bf16 _ (src m c t d y) = FloatOps.truncf .bf16 _ (src m c t d' y)
    unfold src Window.fill
    rw [dif_pos h', dif_pos h']
  · rw [dif_neg h]

theorem leave_15 (c : Dev nD) (t : Fin cfg0.N) (d : S400x2048.Idx → Elt F .f32) :
    (owns (c : Thread nD τ) (st0_15 t) fullShare (k0_pay1 (src m c t d)) : sProp 𝕄)
    ⊢ iprop(∃ d, owns (c : Thread nD τ) (st0_15 t) fullShare ((cfg0.win 15).fill (cfg0.grid.coords t) d
        ((cfg0.win 15).cut (cfg0.grid.coords t) ((dats m 0 c).after 15 t)))) := by
  rw [after_15]
  iintro H; iexists k0_pay1 (src m c t d)
  rw [← cast_src m c t d (Dat.unnamed 10 t)]
  iexact H

set_option maxHeartbeats 2000000 in
theorem body_obligation (c : Dev nD) :
    BodyObligationLoose (dats m 0 c) (defs₀ (F := F)) Variants.none () Set.univ := fun t => by
  rw [bigSep_W0, bigSep_W0, row]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  simp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7,
    before0_8_of m (dats m 0 c) rfl (fun _ => rfl) t d8, before0_9_of m (dats m 0 c) rfl (fun _ => rfl) t d9, before_10 m c t d10,
    before0_11_of m (dats m 0 c) rfl (fun _ => rfl) t d11, before0_12_of m (dats m 0 c) rfl (fun _ => rfl) t d12,
    before0_13_of m (dats m 0 c) rfl (fun _ => rfl) t d13]
  iapply (body_run c (grid0.coords t) _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t)
    (src m c t d10) (iblk m c 11 t) (iblk m c 12 t) (iblk m c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leave_10 m c t d10); iexact H10
  isplitl [H11]; · iexact H11
  isplitl [H12]; · iexact H12
  isplitl [H13]; · iexact H13
  isplitl [H14]; · iexact H14
  isplitl [H15]; · iapply (leave_15 m c t d10); iexact H15
  isplitl [H16]; · iexact H16
  isplitl [H17]; · iexact H17
  iexact H18

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl) (howed := fun _ _ => rfl) (V := V m)
    (hmain := hmain m Variants.none) (hA := fun _ _ => rfl)
    (hin := fun c => BIBase.Entails.rfl) (hout := fun c => BIBase.Entails.rfl)

end Cert.Filt
-- ==== Proof.FiltRef.lean ====
/-
  The filter's hidden layers and the four casts, as functions of the call's arguments, the reference's, and the equality of
  the two programs.
-/
module

public import proofs.«01_k».proof.Defs
public import proofs.«01_k».proof.Proof.Ffn
public import proofs.«01_k».proof.Proof.FiltRun
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Lib.KernelVsHost

@[expose] public section

set_option maxRecDepth 16384

noncomputable section

open Idealize.ShloMosaic Idealize.ShloMosaic.TcCoe Idealize.SL.Sem

namespace Cert.Filt

open Cert.Ffn

/-- One layer: the sine of the frequency times the row's product with the weight plus the bias. -/
def layer {n : ℕ} (x : Mat n 128) (w : Mat 128 128) (b f : Mat 1 128) : Mat n 128 := fun i =>
  Ideal.sin (f (ix2 0 (i 1)) * ((∑ k : Fin 128, x (ix2 (i 0) k) * w (ix2 k (i 1))) + b (ix2 0 (i 1))))

/-- A row of a layer depends on that row of its input alone. -/
theorem layer_row {n n' : ℕ} {x : Mat n 128} {X : Mat n' 128} (w : Mat 128 128) (b f : Mat 1 128) (r : Fin n) (R : Fin n')
    (h : ∀ k, x (ix2 r k) = X (ix2 R k)) (j : Fin 128) : layer x w b f (ix2 r j) = layer X w b f (ix2 R j) :=
  congrArg (fun s : EReal => Ideal.sin (f (ix2 0 j) * (s + b (ix2 0 j)))) (Finset.sum_congr rfl fun k _ =>
    congrArg (fun s : EReal => s * w (ix2 k j)) (h k))

/-- The matrix twice, and then its difference to itself. -/
def triple {n : ℕ} (h : Mat n 128) : Mat n 384 := fun i =>
  if p : (i 1).val < 128 then h (ix2 (i 0) ⟨(i 1).val, p⟩)
  else if q : (i 1).val - 128 < 128 then h (ix2 (i 0) ⟨(i 1).val - 128, q⟩)
  else h (ix2 (i 0) ⟨(i 1).val - 128 - 128, by have : (i 1).val < 384 := (i 1).isLt; omega⟩)
    - h (ix2 (i 0) ⟨(i 1).val - 128 - 128, by have : (i 1).val < 384 := (i 1).isLt; omega⟩)

theorem triple_row {n n' : ℕ} {h : Mat n 128} {H : Mat n' 128} (r : Fin n) (R : Fin n')
    (e : ∀ k, h (ix2 r k) = H (ix2 R k)) (j : Fin 384) : triple h (ix2 r j) = triple H (ix2 R j) := by
  unfold triple
  simp only [show ∀ k : Fin 128, h (ix2 ((ix2 r j : (⟨2, ![n, 384]⟩ : Shape).Idx) 0) k)
    = H (ix2 ((ix2 R j : (⟨2, ![n', 384]⟩ : Shape).Idx) 0) k) from e]
  rfl

/-- The three hidden layers of all rows, as the call leaves them. -/
def hid (z : Mat 8192 128) (w1 : Mat 128 128) (b1 f1 : Mat 1 128) (w2 : Mat 128 128) (b2 f2 : Mat 1 128) (w3 : Mat 128 128)
    (b3 f3 : Mat 1 128) : Mat 8192 384 :=
  triple (layer (layer (layer z w1 b1 f1) w2 b2 f2) w3 b3 f3)

section Kernel

open Cert.Kernel6 Cert.Kernel6.Gen

/-- The hidden layers' block. -/
theorem hid_eq (v0 : Vec Ideal S1x128 .f32) (v1 : Vec Ideal S512x128 .f32) (v2 : Vec Ideal S128x128 .f32) (v4 v10 : Vec Ideal S1x128 .f32)
    (v11 : Vec Ideal S128x128 .f32) (v13 v19 : Vec Ideal S1x128 .f32) (v20 : Vec Ideal S128x128 .f32) (v22 : Vec Ideal S1x128 .f32)
    (y : S512x384.Idx) : (k0_pay5 v0 v1 v2 v4 v10 v11 v13 v19 v20 v22 : S512x384.Idx → EReal) y
      = triple (n := 512) (layer (layer (layer v1 v2 v4 v0) v11 v13 v10) v20 v22 v19) y := by
  pointwise [k0_pay5, triple, layer]

variable (m : (ℓ : Loc nD τ sig) → Buf (Elt Ideal) ℓ)

/-- Which block of its array each window reads or writes at point `t`. -/
theorem idx : ∀ t : Fin cfg0.N, win0_0.index t = ![t.val, 0] ∧ win0_14.index t = ![t.val, 0]
    ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] := by
  decide +kernel

/-- The hidden layers of the launch's arguments. -/
def out (c : Dev nD) : S8192x384.Idx → EReal :=
  hid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem lt16 (t : Fin cfg0.N) : t.val < 16 := by have := t.isLt; have : cfg0.N = 16 := N_0; omega

theorem z_at (c : Dev nD) (t : Fin cfg0.N) (r : Fin 512) (k : Fin 128) : (iblk m c 0 t : S512x128.Idx → EReal) (ix2 r k)
    = (m ((c : Thread nD τ).loc main_arg0) : S8192x128.Idx → EReal) (ix2 (⟨512 * t.val + r.val, by have := lt16 t; omega⟩ : Fin 8192) k) := by
  blk_ext [iblk, V, idx t]

/-- Every point has the weights, biases and frequencies whole. -/
theorem w_at (c : Dev nD) (t : Fin cfg0.N) : iblk m c 1 t = m ((c : Thread nD τ).loc main_arg1) ∧ iblk m c 2 t = m ((c : Thread nD τ).loc main_arg2)
    ∧ iblk m c 3 t = m ((c : Thread nD τ).loc main_arg3) ∧ iblk m c 4 t = m ((c : Thread nD τ).loc main_arg4)
    ∧ iblk m c 5 t = m ((c : Thread nD τ).loc main_arg5) ∧ iblk m c 6 t = m ((c : Thread nD τ).loc main_arg6)
    ∧ iblk m c 7 t = m ((c : Thread nD τ).loc main_arg7) ∧ iblk m c 8 t = m ((c : Thread nD τ).loc main_arg8)
    ∧ iblk m c 9 t = m ((c : Thread nD τ).loc main_arg9) := by
  refine ⟨?_, ?_, ?_, ?_, ?_, ?_, ?_, ?_, ?_⟩ <;> (funext y; blk_ext [iblk, V, idx t])

theorem hid_at (c : Dev nD) (t : Fin cfg0.N) (y : S512x384.Idx) : (hid3 (F := Ideal) m c t : S512x384.Idx → EReal) y
    = out m c (ix2 (⟨512 * t.val + (y 0).val, by have := lt16 t; have : (y 0).val < 512 := (y 0).isLt; omega⟩ : Fin 8192) (y 1)) := by
  obtain ⟨e1, e2, e3, e4, e5, e6, e7, e8, e9⟩ := w_at m c t
  unfold hid3
  rw [hid_eq, e1, e2, e3, e4, e5, e6, e7, e8, e9]
  exact (congrArg (triple _) (Shape.idx_ext₂ rfl rfl : y = ix2 (y 0) (y 1))).trans (triple_row (y 0) _ (fun k =>
    layer_row _ _ _ (y 0) _ (fun k => layer_row _ _ _ (y 0) _ (fun k => layer_row _ _ _ (y 0) _ (fun k => z_at m c t (y 0) k) k) k) k) (y 1))

theorem final14 (c : Dev nD) : (dats m 0 c).arrAt 14 cfg0.N = out m c := by
  refine (dats m 0 c).arrAt_eq_of_covers 14 _ (by decide +kernel) fun t hf y => ?_
  refine Eq.trans (hid_at m c t y) (congrArg (out m c) ?_)
  blk_ext [idx t]

theorem final15 (c : Dev nD) : (dats m 0 c).arrAt 15 cfg0.N = (m ((c : Thread nD τ).loc main_arg10) : S6176x2048.Idx → EReal) :=
  (dats m 0 c).arrAt_eq_of_covers 15 _ (by decide +kernel) fun t hf y =>
    congrFun ((cfg0.win 10).cut_fill (cfg0.grid.coords t) (Pipeline.Dat.unnamed 10 t) (iblk m c 10 t)) y

theorem final16 (c : Dev nD) : (dats m 0 c).arrAt 16 cfg0.N = (m ((c : Thread nD τ).loc main_arg11) : S2048x5632.Idx → EReal) :=
  (dats m 0 c).arrAt_eq_of_covers 16 _ (by decide +kernel) fun t hf y => rfl

theorem final17 (c : Dev nD) : (dats m 0 c).arrAt 17 cfg0.N = (m ((c : Thread nD τ).loc main_arg12) : S2048x5632.Idx → EReal) :=
  (dats m 0 c).arrAt_eq_of_covers 17 _ (by decide +kernel) fun t hf y => rfl

theorem final18 (c : Dev nD) : (dats m 0 c).arrAt 18 cfg0.N = (m ((c : Thread nD τ).loc main_arg13) : S5632x2048.Idx → EReal) :=
  (dats m 0 c).arrAt_eq_of_covers 18 _ (by decide +kernel) fun t hf y => rfl

/-- The call ends with its results and its arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v0_0) = out m c
      ∧ r.2.mem ((c.tc : Thread nD τ).loc main_v0_1) = (m ((c.tc : Thread nD τ).loc main_arg10) : S6176x2048.Idx → EReal)
      ∧ r.2.mem ((c.tc : Thread nD τ).loc main_v0_2) = (m ((c.tc : Thread nD τ).loc main_arg11) : S2048x5632.Idx → EReal)
      ∧ r.2.mem ((c.tc : Thread nD τ).loc main_v0_3) = (m ((c.tc : Thread nD τ).loc main_arg12) : S2048x5632.Idx → EReal)
      ∧ r.2.mem ((c.tc : Thread nD τ).loc main_v0_4) = (m ((c.tc : Thread nD τ).loc main_arg13) : S5632x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h.2.1 c).1 14).trans (final14 m c), ((h.2.1 c).1 15).trans (final15 m c),
    ((h.2.1 c).1 16).trans (final16 m c), ((h.2.1 c).1 17).trans (final17 m c), ((h.2.1 c).1 18).trans (final18 m c), h.1 c⟩)
    (θ_run_and (frame_of m ρ (dats m) (fun _ _ => rfl) ((θ_run defs _ _).mono (fun _ h => h.1) (run_main m ρ)))
      (run_main m ρ))

end Kernel

section Reference

open Cert.Reference6Ideal Cert.Reference6Ideal.Gen Cert.Reference6Ideal.Read

theorem row_idx (i : S8192x128.Idx) : idx_main_v1 i = ix2 0 (i 1) := Shape.idx_ext₂ rfl rfl
theorem lhs_idx (i : S8192x128.Idx) (k : Fin 128) : lidx_main_v0 i k = ix2 (i 0) k := Shape.idx_ext₂ rfl rfl
theorem rhs_idx (i : S8192x128.Idx) (k : Fin 128) : ridx_main_v0 i k = ix2 k (i 1) := Shape.idx_ext₂ rfl rfl

/-- A layer as the reference's operations read it. -/
theorem layer_read (x : S8192x128.Idx → EReal) (w : S128x128.Idx → EReal) (b f : S1x128.Idx → EReal) (i : S8192x128.Idx) :
    (FloatOps.hostUnary (F := Ideal) (φ := .f32) .sin (FloatOps.mulf (f (idx_main_v1 i))
      (FloatOps.addf (∑ k : Fin 128, x (lidx_main_v0 i k) * w (ridx_main_v0 i k)) (b (idx_main_v1 i)))) : EReal)
      = layer (n := 8192) x w b f i := by
  unfold layer
  simp only [row_idx, lhs_idx, rhs_idx]
  pointwise

theorem ref_layer1 (x0 : S8192x128.Idx → EReal) (x1 : S128x128.Idx → EReal) (x2 x3 : S1x128.Idx → EReal) :
    val_main_v5 (F := Ideal) x0 x1 x2 x3 = layer (n := 8192) x0 x1 x2 x3 := by
  funext i
  rw [val_main_v5_apply, val_main_v4_apply, val_main_v3_apply, val_main_v2_apply, val_main_v1_apply, val_main_v0_apply]
  exact layer_read x0 x1 x2 x3 i

theorem ref_layer2 (x0 : S8192x128.Idx → EReal) (x1 : S128x128.Idx → EReal) (x2 x3 : S1x128.Idx → EReal)
    (x4 : S128x128.Idx → EReal) (x5 x6 : S1x128.Idx → EReal) :
    val_main_v11 (F := Ideal) x0 x1 x2 x3 x4 x5 x6 = layer (n := 8192) (layer (n := 8192) x0 x1 x2 x3) x4 x5 x6 := by
  funext i
  rw [val_main_v11_apply, val_main_v10_apply, val_main_v9_apply, val_main_v8_apply, val_main_v7_apply, val_main_v6_apply, ref_layer1]
  exact layer_read (layer (n := 8192) x0 x1 x2 x3) x4 x5 x6 i

theorem ref_layer3 (x0 : S8192x128.Idx → EReal) (x1 : S128x128.Idx → EReal) (x2 x3 : S1x128.Idx → EReal)
    (x4 : S128x128.Idx → EReal) (x5 x6 : S1x128.Idx → EReal) (x7 : S128x128.Idx → EReal) (x8 x9 : S1x128.Idx → EReal) :
    val_main_v17 (F := Ideal) x0 x1 x2 x3 x4 x5 x6 x7 x8 x9
      = layer (n := 8192) (layer (n := 8192) (layer (n := 8192) x0 x1 x2 x3) x4 x5 x6) x7 x8 x9 := by
  funext i
  rw [val_main_v17_apply, val_main_v16_apply, val_main_v15_apply, val_main_v14_apply, val_main_v13_apply, val_main_v12_apply, ref_layer2]
  exact layer_read (layer (n := 8192) (layer (n := 8192) x0 x1 x2 x3) x4 x5 x6) x7 x8 x9 i

/-- The reference's hidden layers. -/
theorem ref_hid (x0 : S8192x128.Idx → EReal) (x1 : S128x128.Idx → EReal) (x2 x3 : S1x128.Idx → EReal)
    (x4 : S128x128.Idx → EReal) (x5 x6 : S1x128.Idx → EReal) (x7 : S128x128.Idx → EReal) (x8 x9 : S1x128.Idx → EReal) :
    val_main_v22 (F := Ideal) x0 x1 x2 x3 x4 x5 x6 x7 x8 x9 = hid x0 x1 x2 x3 x4 x5 x6 x7 x8 x9 := by
  funext i
  unfold val_main_v22 hid triple
  pointwise
  simp only [val_main_v21_apply, val_main_v20_apply, val_main_v19_apply, val_main_v18_apply, ref_layer3]
  pointwise

end Reference

end Cert.Filt

namespace Cert.Filt

open Cert.Kernel6 Cert.Kernel6.Gen in
/-- At any format the call runs, leaves its arguments alone and ends with every counter at zero. -/
theorem quiet {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (fun _ _ => rfl) ((θ_run defs _ _).mono (fun _ h => h.1) (run_main m ρ)))
    ((θ_run defs _ _).mono (fun _ h => h.2) (run_main m ρ))

variable (F : FTy → Type) [FloatOps F]

set_option maxRecDepth 65536 in
set_option maxHeartbeats 8000000 in
set_option backward.isDefEq.respectTransparency.types false in
/-- The bodies of the printed program and of its reading over the reals agree label by label. -/
theorem bodies_eq : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg (Defs.onTc (τ := Cert.Kernel6.τ)) ?_
  funext l a
  match l with
  | 0 => rfl

set_option backward.isDefEq.respectTransparency.types false in
/-- So do the tables with the pipeline's own labels. -/
theorem tables_eq : @Cert.Kernel6.defs F _ Cert.Kernel6.Gen.facts = @Cert.Kernel6Ideal.defs F _ Cert.Kernel6Ideal.Gen.facts :=
  congrArg (Pipeline.defs (Cert.Kernel6.pcfgs (F := F))) (bodies_eq F)

end Cert.Filt

namespace Cert.Proof

/-- The call as printed runs, leaves its arguments alone and ends with every counter at zero. -/
theorem frame6 : quiescent_Kernel6 (hKernel6 := Cert.Kernel6.Gen.facts) := fun m g _ => Cert.Filt.quiet (F := Bits) m g

set_option maxRecDepth 65536 in
set_option maxHeartbeats 8000000 in
set_option backward.isDefEq.respectTransparency.types false in
/-- So does its reading over the reals. -/
theorem frameI6 : quiescent_Kernel6Ideal (hKernel6Ideal := Cert.Kernel6Ideal.Gen.facts) := fun m g _ =>
  Eq.mp (congrArg (fun D => θ_run D (onTc (τ := Cert.Kernel6.τ) (Cert.Kernel6.main (F := Ideal))) ⟨m, fun _ => 0, g⟩ _)
    (Cert.Filt.tables_eq Ideal)) (Cert.Filt.quiet (F := Ideal) m g)

/-- The reference runs, leaves its arguments alone and ends with every counter at zero. -/
theorem frameR6 [hR : Cert.Reference6Ideal.Facts] : quiescent_Reference6Ideal (hReference6Ideal := hR) := by
  intro m g _
  exact (θ_run _ _ _).mono (fun r h => ⟨fun c => (h c).2.2.2.2.2, sem_eq_zero_of_no_sems (by decide) r.2⟩)
    (Cert.Reference6Ideal.Value.run (F := Ideal) m g)

set_option maxRecDepth 65536 in
set_option maxHeartbeats 8000000 in
set_option backward.isDefEq.respectTransparency.types false in
/-- Over the extended reals the call and its reference end with equal results. -/
theorem algebraic6 [hR : Cert.Reference6Ideal.Facts] :
    algebraic_Kernel6Ideal_Reference6Ideal (hKernel6Ideal := Cert.Kernel6Ideal.Gen.facts) (hReference6Ideal := hR) := by
  intro m g m' g' _ hm
  refine ⟨fun c => Filt.out m c, fun c => m ((c.tc : Thread Cert.Kernel6Ideal.nD Cert.Kernel6Ideal.τ).loc Cert.Kernel6Ideal.main_arg10),
    fun c => m ((c.tc : Thread Cert.Kernel6Ideal.nD Cert.Kernel6Ideal.τ).loc Cert.Kernel6Ideal.main_arg11),
    fun c => m ((c.tc : Thread Cert.Kernel6Ideal.nD Cert.Kernel6Ideal.τ).loc Cert.Kernel6Ideal.main_arg12),
    fun c => m ((c.tc : Thread Cert.Kernel6Ideal.nD Cert.Kernel6Ideal.τ).loc Cert.Kernel6Ideal.main_arg13), ?_, ?_⟩
  · exact Eq.mp (congrArg (fun D => θ_run D (onTc (τ := Cert.Kernel6.τ) (Cert.Kernel6.main (F := Ideal))) ⟨m, fun _ => 0, g⟩ _)
      (Cert.Filt.tables_eq Ideal)) (Cert.Filt.results m g)
  · refine (θ_run _ _ _).mono (fun r h c => ?_) (Cert.Reference6Ideal.Value.run m' g')
    obtain ⟨h0, h1, h2, h3, h4, h⟩ := h c
    obtain ⟨e0, e1, e2, e3, e4, e5, e6, e7, e8, e9, e10, e11, e12, e13⟩ := hm c
    refine ⟨?_, h1.trans e10, h2.trans e11, h3.trans e12, h4.trans e13, h⟩
    rw [h0, Cert.Reference6Ideal.Read.val_main_v22_eq, e0, e1, e2, e3, e4, e5, e6, e7, e8, e9]
    exact Filt.ref_hid _ _ _ _ _ _ _ _ _ _

end Cert.Proof
-- ==== Proof.FiltFftLoop.lean ====
/-
  The first step of the filter's transform: the loop that reads the rows of the time blocks and the table of the first
  step, and stores the result in rows 136 apart. Nothing is said of what it stores.
-/
module

public import proofs.«01_k».proof.Defs
public import proofs.«01_k».proof.Proof.Gen.Kernel7.Frame
public import proofs.«01_k».proof.Proof.Gen.Kernel7.Skeleton
public import proofs.«01_k».proof.Proof.Gen.Kernel7.Loops
public import Idealize.ShloMosaic.Lib.Tactic

@[expose] public section

set_option maxRecDepth 16384

noncomputable section

namespace Cert.FiltFft

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- What a trip holds: the rows and the table at their contents, the result at some. -/
abbrev Trip (c : Dev nD) (arg4 : Memref sig .tc .vmem S64x256x256 .bf16) (arg8 : Memref sig .tc .vmem S17408x128 .f32)
    (arg9 : Memref sig .tc .vmem S34816x128 .f32) (T : BufTy.Contents (Elt F) arg4.view.ty) (U : BufTy.Contents (Elt F) arg8.view.ty) : sProp 𝕄 :=
  iprop((arg4.view.loc (c : Thread nD τ) ↦[arg4.view.set]{fullShare} T) ∗ (arg8.view.loc (c : Thread nD τ) ↦[arg8.view.set]{fullShare} U)
    ∗ (∃ f, arg9.view.loc (c : Thread nD τ) ↦[arg9.view.set]{fullShare} f))

set_option maxHeartbeats 8000000 in
/-- One trip leaves the rows and the table as they were. -/
theorem trip (𝒱 : Variants) (c : Dev nD) (bd : Option 𝒱.V) (E : Set ℕ) (i : grid0.Coords)
    (arg1 : Memref sig .tc .vmem S8192x384 .bf16) (harg1 : arg1.IsWhole) (arg2 : Memref sig .tc .vmem S384x256 .bf16) (harg2 : arg2.IsWhole)
    (arg3 : Memref sig .tc .vmem S1x128 .f32) (harg3 : arg3.IsWhole) (arg4 : Memref sig .tc .vmem S64x256x256 .bf16) (harg4 : arg4.IsWhole)
    (arg5 : Memref sig .tc .vmem S128x256 .bf16) (harg5 : arg5.IsWhole) (arg6 : Memref sig .tc .vmem S8192x256 .bf16) (harg6 : arg6.IsWhole)
    (arg7 : Memref sig .tc .vmem S8x128 .f32) (harg7 : arg7.IsWhole) (arg8 : Memref sig .tc .vmem S17408x128 .f32) (harg8 : arg8.IsWhole)
    (arg9 : Memref sig .tc .vmem S34816x128 .f32) (harg9 : arg9.IsWhole)
    (T : BufTy.Contents (Elt F) arg4.view.ty) (U : BufTy.Contents (Elt F) arg8.view.ty) (k : Fin k0_t2_loop.trips) :
    Trip (F := F) c arg4 arg8 arg9 T U
      ⊢ wp frame (wpE (defs₀ (F := F)) 𝒱 (c : Thread nD τ) bd) E
        (k0_t2_body (F := F) i arg1 harg1 arg2 harg2 arg3 harg3 arg4 harg4 arg5 harg5 arg6 harg6 arg7 harg7 arg8 harg8 arg9 harg9 k PUnit.unit)
        (fun _ => Trip (F := F) c arg4 arg8 arg9 T U) := by
  have hk : k.val < 4 := Nat.lt_of_lt_of_le k.isLt k0_t2_abs.2.1
  unfold k0_t2_body
  iintro ⟨HT, HU, ⟨%f, HW⟩⟩
  sl_exec
  sl_step
  isplitl [HT]; · iexact HT
  isplitl [HU]; · iexact HU
  iexists _; iexact HW

set_option warn.classDefReducibility false in
/-- The loop by what every trip holds. -/
@[sl_loop] def stepOne (𝒱 : Variants) (c : Dev nD) (bd : Option 𝒱.V) (E : Set ℕ) (i : grid0.Coords)
    (arg1 : Memref sig .tc .vmem S8192x384 .bf16) (harg1 : arg1.IsWhole) (arg2 : Memref sig .tc .vmem S384x256 .bf16) (harg2 : arg2.IsWhole)
    (arg3 : Memref sig .tc .vmem S1x128 .f32) (harg3 : arg3.IsWhole) (arg4 : Memref sig .tc .vmem S64x256x256 .bf16) (harg4 : arg4.IsWhole)
    (arg5 : Memref sig .tc .vmem S128x256 .bf16) (harg5 : arg5.IsWhole) (arg6 : Memref sig .tc .vmem S8192x256 .bf16) (harg6 : arg6.IsWhole)
    (arg7 : Memref sig .tc .vmem S8x128 .f32) (harg7 : arg7.IsWhole) (arg8 : Memref sig .tc .vmem S17408x128 .f32) (harg8 : arg8.IsWhole)
    (arg9 : Memref sig .tc .vmem S34816x128 .f32) (harg9 : arg9.IsWhole)
    (T : BufTy.Contents (Elt F) arg4.view.ty) (U : BufTy.Contents (Elt F) arg8.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 where
  inv _ _ := Trip (F := F) c arg4 arg8 arg9 T U
  step k _ := trip 𝒱 c bd E i arg1 harg1 arg2 harg2 arg3 harg3 arg4 harg4 arg5 harg5 arg6 harg6 arg7 harg7 arg8 harg8 arg9 harg9 T U k

end Cert.FiltFft
-- ==== Proof.FiltFft.lean ====
/-
  The transform of the filter: it runs to the end, leaves its arguments alone and ends with every counter at zero. Nothing
  is said of what its two outputs hold, so their blocks and the two scratch buffers are carried at some contents.
-/
module

public import proofs.«01_k».proof.Defs
public import proofs.«01_k».proof.Proof.FiltFftLoop
public import Idealize.ShloMosaic.Lib.Tactic

@[expose] public section

set_option maxRecDepth 16384

noncomputable section

namespace Cert.FiltFft

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 8000000 in
/-- The body on whole buffers: the five input blocks come back as they were, the other buffers at some contents. -/
theorem body_run (c : Dev nD) (i : grid0.Coords)
    (arg1 : Memref sig .tc .vmem S8192x384 .bf16) (harg1 : arg1.IsWhole) (arg2 : Memref sig .tc .vmem S384x256 .bf16) (harg2 : arg2.IsWhole)
    (arg3 : Memref sig .tc .vmem S1x128 .f32) (harg3 : arg3.IsWhole) (arg4 : Memref sig .tc .vmem S64x256x256 .bf16) (harg4 : arg4.IsWhole)
    (arg5 : Memref sig .tc .vmem S128x256 .bf16) (harg5 : arg5.IsWhole) (arg6 : Memref sig .tc .vmem S8192x256 .bf16) (harg6 : arg6.IsWhole)
    (arg7 : Memref sig .tc .vmem S8x128 .f32) (harg7 : arg7.IsWhole) (arg8 : Memref sig .tc .vmem S17408x128 .f32) (harg8 : arg8.IsWhole)
    (arg9 : Memref sig .tc .vmem S34816x128 .f32) (harg9 : arg9.IsWhole)
    (x0 : Vec F S8192x384 .bf16) (x1 : Vec F S384x256 .bf16) (x2 : Vec F S1x128 .f32) (x3 : Vec F S64x256x256 .bf16) (x4 : Vec F S128x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ (∃ d, owns (c : Thread nD τ) arg6 fullShare d) ∗
          (∃ d, owns (c : Thread nD τ) arg7 fullShare d) ∗ (∃ d, owns (c : Thread nD τ) arg8 fullShare d) ∗ (∃ d, owns (c : Thread nD τ) arg9 fullShare d)
          ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ (∃ d, owns (c : Thread nD τ) arg6 fullShare d) ∗
          (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
        (cc0_filt_fft i arg1 harg1 arg2 harg2 arg3 harg3 arg4 harg4 arg5 harg5 arg6 harg6 arg7 harg7 arg8 harg8 arg9 harg9) K := by
  simp only [cc0_filt_fft_eq_skeleton]; unfold cc0_filt_fft_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩,
    ⟨%d8, %f8, -, H8⟩, Hk⟩
  sl_exec
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; iexists _; isplitr; (swap; · iexact H5); ipureintro; rfl
  isplitl [H6]; · iexists _; iexists _; isplitr; (swap; · iexact H6); ipureintro; rfl
  isplitl [H7]; · iexists _; iexists _; isplitr; (swap; · iexact H7); ipureintro; rfl
  iexists _; iexists _; isplitr; (swap; · iexact H8); ipureintro; rfl

variable (m : (ℓ : Loc nD τ sig) → Buf (Elt F) ℓ) (ρ : Dev nD → PrngReg)

/-- The windows whose contents nothing is said of: the outputs. -/
def forgets : Fin cfg0.W → Bool
  | 5 => true | 6 => true | _ => false

/-- The body leaves the five input blocks in place. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Dat.unnamed 5 t
    | 6 => Dat.unnamed 6 t
    | ⟨_ + 7, h⟩ => absurd h (Nat.not_lt.2 (Nat.le_add_left _ _))
  Φ _ := Pipeline.ΦA spec0 c
  q _ := fullShare
  owed _ := 0

/-- The class invariant spelled out: the scratches at some contents and the generator register at some state. -/
theorem Phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
      ∗ (∃ r, prngReg c r)) := by
  unfold Pipeline.ΦA; rw [scopedRest0_eq]; simp only [owns_whole]

theorem row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) :
    BodyObligationLoose (dats (F := F) m 0 c) (defs₀ (F := F)) Variants.none () Set.univ forgets := fun t => by
  rw [bigSep_W0, bigSep_W0, row]
  simp only [forgets]
  rw [show (dats m 0 c).Φ t.castSucc = Pipeline.ΦA spec0 c from rfl, show (dats m 0 c).Φ t.succ = Pipeline.ΦA spec0 c from rfl, Phi_eq,
    show (dats m 0 c).owesAt () t.succ = (dats m 0 c).owesAt () t.castSucc from rfl]
  iintro ⟨⟨⟨HS0, HS1⟩, Hg⟩, Ho, ⟨%d0, H0⟩, ⟨%d1, H1⟩, ⟨%d2, H2⟩, ⟨%d3, H3⟩, ⟨%d4, H4⟩, H5, H6⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4]
  iapply (body_run c (grid0.coords t) _ _ _ _ _ _ _ _ _ _ _ _ _ _ _ _ _ _
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := fun _ _ => rfl) (hΦ := fun _ _ => rfl)

/-- At any format of numbers: the transform runs, leaves its arguments alone and ends with every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ⟨?_, ?_, ?_, ?_, ?_⟩, h.2⟩) (run_main m ρ)
  · exact (Pipeline.RDat.FramePost.arr_in h.1 c 0 rfl).trans (V_main_arg0 m c)
  · exact (Pipeline.RDat.FramePost.arr_in h.1 c 1 rfl).trans (V_main_arg1 m c)
  · exact (Pipeline.RDat.FramePost.arr_in h.1 c 2 rfl).trans (V_main_arg2 m c)
  · exact (Pipeline.RDat.FramePost.arr_in h.1 c 3 rfl).trans (V_main_arg3 m c)
  · exact (Pipeline.RDat.FramePost.arr_in h.1 c 4 rfl).trans (V_main_arg4 m c)

end Cert.FiltFft

namespace Cert.Proof

open Idealize.ShloMosaic Idealize.ShloMosaic.TcCoe Idealize.SL.Sem

/-- The transform of the filter as printed runs, leaves its arguments alone and ends with every counter at zero. -/
theorem frame7 : quiescent_Kernel7 (hKernel7 := Cert.Kernel7.Gen.facts) :=
  fun m g _ => Cert.FiltFft.quiet (F := Bits) m g

end Cert.Proof
-- ==== Proof.FiltFftIdeal.lean ====
/-
  The transform of the filter read over the real numbers is the printed program, so it runs as that program does.
-/
module

public import proofs.«01_k».proof.Proof.FiltFft
public import proofs.«01_k».proof.Proof.Gen.Kernel7Ideal.Frame

@[expose] public section

set_option maxRecDepth 65536

noncomputable section

namespace Cert.FiltFftIdeal

open Idealize.ShloMosaic Idealize.ShloMosaic.TcCoe Idealize.SL.Sem

variable (F : FTy → Type) [FloatOps F]

set_option maxHeartbeats 8000000 in
set_option backward.isDefEq.respectTransparency.types false in
/-- The bodies agree label by label. -/
theorem bodies_eq : @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg (Defs.onTc (τ := Cert.Kernel7.τ)) ?_
  funext l a
  match l with
  | 0 => rfl

set_option backward.isDefEq.respectTransparency.types false in
/-- So do the tables with the pipeline's own labels. -/
theorem tables_eq : @Cert.Kernel7.defs F _ Cert.Kernel7.Gen.facts = @Cert.Kernel7Ideal.defs F _ Cert.Kernel7Ideal.Gen.facts :=
  congrArg (Pipeline.defs (Cert.Kernel7.pcfgs (F := F))) (bodies_eq F)

end Cert.FiltFftIdeal

namespace Cert.Proof

open Idealize.ShloMosaic Idealize.ShloMosaic.TcCoe Idealize.SL.Sem

set_option maxHeartbeats 8000000 in
set_option backward.isDefEq.respectTransparency.types false in
/-- The transform of the filter over the real numbers runs, leaves its arguments alone and ends with every counter at zero. -/
theorem frame7I : quiescent_Kernel7Ideal (hKernel7Ideal := Cert.Kernel7Ideal.Gen.facts) := fun m g _ =>
  Eq.mp (congrArg (fun D => θ_run D (onTc (τ := Cert.Kernel7.τ) (Cert.Kernel7.main (F := Ideal))) ⟨m, fun _ => 0, g⟩ _)
    (Cert.FiltFftIdeal.tables_eq Ideal)) (Cert.FiltFft.quiet (F := Ideal) m g)

end Cert.Proof
-- ==== Proof.lean ====
module

public import proofs.«01_k».proof.Defs
public import proofs.«01_k».proof.Proof.Gen.Kernel1
public import proofs.«01_k».proof.Proof.Gen.Kernel1.Frame
public import proofs.«01_k».proof.Proof.Gen.Kernel1Ideal
public import proofs.«01_k».proof.Proof.Gen.Kernel1Ideal.Frame
public import proofs.«01_k».proof.Proof.Gen.Kernel1Ideal.Value
public import proofs.«01_k».proof.Proof.Gen.Reference1Ideal
public import proofs.«01_k».proof.Proof.Gen.Reference1Ideal.Run
public import proofs.«01_k».proof.Proof.Gen.Reference1Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Ffn1Ref
public import proofs.«01_k».proof.Proof.Ffn2Ref
public import proofs.«01_k».proof.Proof.OutProj
public import proofs.«01_k».proof.Proof.InProjRef
public import proofs.«01_k».proof.Proof.GlaFrameIdeal
public import proofs.«01_k».proof.Proof.FiltRef
public import proofs.«01_k».proof.Proof.FiltFftIdeal
public import Idealize.ShloMosaic.Adequacy
public import Idealize.ShloMosaic.Init

@[expose] public section

noncomputable section

namespace Cert.Proof

open Idealize.ShloMosaic Idealize.SL.Sem

/-- All the claims: the frames and values of the two feed-forward calls, the output
projection, the input projection and the filter's hidden layers, and the frames of the attention's scan and the filter's transform. -/
theorem claim : Cert.Claim :=
  ⟨Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    Cert.Kernel6.Gen.facts, Cert.Kernel6Ideal.Gen.facts, Cert.Reference6Ideal.Gen.facts,
    Cert.Kernel7.Gen.facts, Cert.Kernel7Ideal.Gen.facts,
    fun m ρ _ => Cert.Kernel1.Gen.frame m ρ, fun m ρ _ => Cert.Kernel1Ideal.Gen.frame m ρ, Cert.Proof.frameR1,
    fun m ρ _ => Cert.Kernel2.Gen.frame m ρ, fun m ρ _ => Cert.Kernel2Ideal.Gen.frame m ρ, Cert.Proof.frameR2,
    fun m ρ _ => Cert.Kernel3.Gen.frame m ρ, fun m ρ _ => Cert.Kernel3Ideal.Gen.frame m ρ, Cert.Proof.frameR3,
    Cert.Proof.frame4, Cert.Proof.frameI4, Cert.Proof.frameR4,
    Cert.Proof.frame5, Cert.Proof.frame5I,
    Cert.Proof.frame6, Cert.Proof.frameI6, Cert.Proof.frameR6,
    Cert.Proof.frame7, Cert.Proof.frame7I,
    trivial, Cert.Proof.algebraic1, trivial, Cert.Proof.algebraic2, trivial, Cert.Proof.algebraic3, trivial, Cert.Proof.algebraic4, trivial,
    trivial, Cert.Proof.algebraic6, trivial⟩

end Cert.Proof

end
